-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_finite [hPre_scale_finite : Cert.Pre_scale_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scale_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_finite [hPre_scale_finite : Cert.Pre_scale_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_scale_finite [hKernelIdeal : Cert.KernelIdeal.Facts] [hPre_scale_finite : Cert.Pre_scale_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_scale_finite [hReferenceIdeal : Cert.ReferenceIdeal.Facts] [hPre_scale_finite : Cert.Pre_scale_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_scale_finite [hKernelIdeal : Cert.KernelIdeal.Facts] [hReferenceIdeal : Cert.ReferenceIdeal.Facts] [hPre_scale_finite : Cert.Pre_scale_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_scale_finite : Cert.Pre_scale_finite.Facts),
    quiescent_Kernel (hKernel := hKernel)
    ∧ quiescent_KernelIdeal (hKernelIdeal := hKernelIdeal)
    ∧ quiescent_KernelIdeal_pre_scale_finite (hKernelIdeal := hKernelIdeal) (hPre_scale_finite := hPre_scale_finite)
    ∧ quiescent_ReferenceIdeal (hReferenceIdeal := hReferenceIdeal)
    ∧ quiescent_ReferenceIdeal_pre_scale_finite (hReferenceIdeal := hReferenceIdeal) (hPre_scale_finite := hPre_scale_finite)
    ∧ preserves_Kernel_KernelIdeal
    ∧ algebraic_KernelIdeal_ReferenceIdeal_pre_scale_finite (hKernelIdeal := hKernelIdeal) (hReferenceIdeal := hReferenceIdeal) (hPre_scale_finite := hPre_scale_finite)
-- ==== Pre_scale_finite.lean ====
abbrev S128x2048 : Shape := ⟨2, ![128, 2048]⟩
abbrev S24x576x2048 : Shape := ⟨3, ![24, 576, 2048]⟩
abbrev S512x6144 : Shape := ⟨2, ![512, 6144]⟩
abbrev S512 : Shape := ⟨1, ![512]⟩
abbrev S2048x512 : Shape := ⟨2, ![2048, 512]⟩
abbrev S2048 : Shape := ⟨1, ![2048]⟩
abbrev S2048x2048 : Shape := ⟨2, ![2048, 2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S128x2048 .f32) (main_arg1 : FVec F S24x576x2048 .f32) (main_arg2 : FVec F S512x6144 .f32) (main_arg3 : FVec F S512 .f32) (main_arg4 : FVec F S2048x512 .f32) (main_arg5 : FVec F S2048 .f32) (main_arg6 : FVec F S2048x512 .f32) (main_arg7 : FVec F S2048 .f32) (main_arg8 : FVec F S2048x512 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048 .f32) (main_arg16 : FVec F S2048 .f32) : IVec S_ 1 :=
  let main_v0 : FVec F S2048 .f32 := Host.absf main_arg15
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  main_v3
-- ==== Kernel.lean ====
abbrev S128x2048 : Shape := ⟨2, ![128, 2048]⟩
abbrev S24x576x2048 : Shape := ⟨3, ![24, 576, 2048]⟩
abbrev S512x6144 : Shape := ⟨2, ![512, 6144]⟩
abbrev S512 : Shape := ⟨1, ![512]⟩
abbrev S2048x512 : Shape := ⟨2, ![2048, 512]⟩
abbrev S2048 : Shape := ⟨1, ![2048]⟩
abbrev S2048x2048 : Shape := ⟨2, ![2048, 2048]⟩
abbrev S24x1x2048 : Shape := ⟨3, ![24, 1, 2048]⟩
abbrev S1x576x2048 : Shape := ⟨3, ![1, 576, 2048]⟩
abbrev S1x1x2048 : Shape := ⟨3, ![1, 1, 2048]⟩
abbrev S576x2048 : Shape := ⟨2, ![576, 2048]⟩
abbrev S1x2048 : Shape := ⟨2, ![1, 2048]⟩
abbrev S24x2048 : Shape := ⟨2, ![24, 2048]⟩
abbrev S1x512 : Shape := ⟨2, ![1, 512]⟩
abbrev S1 : Shape := ⟨1, ![1]⟩
abbrev S1x1 : Shape := ⟨2, ![1, 1]⟩
abbrev S1x6144 : Shape := ⟨2, ![1, 6144]⟩
abbrev S_ : Shape := ⟨0, ![]⟩
abbrev S2 : Shape := ⟨1, ![2]⟩
abbrev S2048x1 : Shape := ⟨2, ![2048, 1]⟩
abbrev S24x1x576 : Shape := ⟨3, ![24, 1, 576]⟩
abbrev S1x1x576 : Shape := ⟨3, ![1, 1, 576]⟩
abbrev S2048x576 : Shape := ⟨2, ![2048, 576]⟩
abbrev S576 : Shape := ⟨1, ![576]⟩
abbrev S1x576 : Shape := ⟨2, ![1, 576]⟩
abbrev S1x1x1 : Shape := ⟨3, ![1, 1, 1]⟩
abbrev S13824 : Shape := ⟨1, ![13824]⟩
abbrev S64 : Shape := ⟨1, ![64]⟩
abbrev S13824x2048 : Shape := ⟨2, ![13824, 2048]⟩
abbrev S64x1 : Shape := ⟨2, ![64, 1]⟩
abbrev S64x2048 : Shape := ⟨2, ![64, 2048]⟩

abbrev nBuf : Space → Nat
  | .hbm => 69
  | .vmem => 24
  | .smem => 1
  | _ => 0

abbrev bufTy : (tb : Table) → Fin (tcTables nBuf tb) → BufTy
  | .hbm, ⟨0, _⟩ => ⟨S128x2048, .f32⟩
  | .hbm, ⟨1, _⟩ => ⟨S24x576x2048, .f32⟩
  | .hbm, ⟨2, _⟩ => ⟨S512x6144, .f32⟩
  | .hbm, ⟨3, _⟩ => ⟨S512, .f32⟩
  | .hbm, ⟨4, _⟩ => ⟨S2048x512, .f32⟩
  | .hbm, ⟨5, _⟩ => ⟨S2048, .f32⟩
  | .hbm, ⟨6, _⟩ => ⟨S2048x512, .f32⟩
  | .hbm, ⟨7, _⟩ => ⟨S2048, .f32⟩
  | .hbm, ⟨8, _⟩ => ⟨S2048x512, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048, .f32⟩
  | .hbm, ⟨16, _⟩ => ⟨S2048, .f32⟩
  | .hbm, ⟨17, _⟩ => ⟨S24x1x2048, .f32⟩
  | .hbm, ⟨18, _⟩ => ⟨S24x2048, .f32⟩
  | .hbm, ⟨19, _⟩ => ⟨S1x512, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S1x2048, .f32⟩
  | .hbm, ⟨34, _⟩ => ⟨S2048, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S1, .f32⟩
  | .hbm, ⟨39, _⟩ => ⟨S2, .f32⟩
  | .hbm, ⟨40, _⟩ => ⟨S2048x1, .f32⟩
  | .hbm, ⟨41, _⟩ => ⟨S24x1x576, .f32⟩
  | .hbm, ⟨42, _⟩ => ⟨S13824, .f32⟩
  | .hbm, ⟨43, _⟩ => ⟨S64, .f32⟩
  | .hbm, ⟨44, _⟩ => ⟨S64, .i32⟩
  | .hbm, ⟨45, _⟩ => ⟨S13824x2048, .f32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S1, .i32⟩
  | .hbm, ⟨55, _⟩ => ⟨S_, .i32⟩
  | .hbm, ⟨56, _⟩ => ⟨S64x1, .i32⟩
  | .hbm, ⟨57, _⟩ => ⟨S64x1, .i1⟩
  | .hbm, ⟨58, _⟩ => ⟨S1x1, .i32⟩
  | .hbm, ⟨59, _⟩ => ⟨S64x1, .i32⟩
  | .hbm, ⟨60, _⟩ => ⟨S64x1, .i1⟩
  | .hbm, ⟨61, _⟩ => ⟨S64x1, .i1⟩
  | .hbm, ⟨62, _⟩ => ⟨S_, .i1⟩
  | .hbm, ⟨63, _⟩ => ⟨S64, .i1⟩
  | .hbm, ⟨64, _⟩ => ⟨S64x2048, .f32⟩
  | .hbm, ⟨65, _⟩ => ⟨S64x2048, .i1⟩
  | .hbm, ⟨66, _⟩ => ⟨S_, .f32⟩
  | .hbm, ⟨67, _⟩ => ⟨S64x2048, .f32⟩
  | .hbm, ⟨68, _⟩ => ⟨S64x2048, .f32⟩
  | .local _ .vmem, ⟨0, _⟩ => ⟨S1x576x2048, .f32⟩
  | .local _ .vmem, ⟨1, _⟩ => ⟨S1x576x2048, .f32⟩
  | .local _ .vmem, ⟨2, _⟩ => ⟨S1x1x2048, .f32⟩
  | .local _ .vmem, ⟨3, _⟩ => ⟨S1x1x2048, .f32⟩
  | .local _ .vmem, ⟨4, _⟩ => ⟨S128x2048, .f32⟩
  | .local _ .vmem, ⟨5, _⟩ => ⟨S24x2048, .f32⟩
  | .local _ .vmem, ⟨6, _⟩ => ⟨S512x6144, .f32⟩
  | .local _ .vmem, ⟨7, _⟩ => ⟨S1x512, .f32⟩
  | .local _ .vmem, ⟨8, _⟩ => ⟨S2048x512, .f32⟩
  | .local _ .vmem, ⟨9, _⟩ => ⟨S1x2048, .f32⟩
  | .local _ .vmem, ⟨10, _⟩ => ⟨S2048x512, .f32⟩
  | .local _ .vmem, ⟨11, _⟩ => ⟨S1x2048, .f32⟩
  | .local _ .vmem, ⟨12, _⟩ => ⟨S2048x512, .f32⟩
  | .local _ .vmem, ⟨13, _⟩ => ⟨S1x2048, .f32⟩
  | .local _ .vmem, ⟨14, _⟩ => ⟨S2048x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S1x576x2048, .f32⟩
  | .local _ .vmem, ⟨19, _⟩ => ⟨S1x576x2048, .f32⟩
  | .local _ .vmem, ⟨20, _⟩ => ⟨S2048x2048, .f32⟩
  | .local _ .vmem, ⟨21, _⟩ => ⟨S2048x1, .f32⟩
  | .local _ .vmem, ⟨22, _⟩ => ⟨S1x1x576, .f32⟩
  | .local _ .vmem, ⟨23, _⟩ => ⟨S1x1x576, .f32⟩
  | .local _ .smem, ⟨0, _⟩ => ⟨S2, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_values : Ref sig .tc := ⟨.hbm, 43, rfl⟩
abbrev main_indices : Ref sig .tc := ⟨.hbm, 44, rfl⟩
abbrev main_v25 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_v14 : Ref sig .tc := ⟨.hbm, 65, rfl⟩
abbrev main_call0_cst : Ref sig .tc := ⟨.hbm, 66, rfl⟩
abbrev main_call0_v15 : Ref sig .tc := ⟨.hbm, 67, rfl⟩
abbrev main_v26 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem13_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32 : BitVec 32 := 0#32
  let c23_i32 : BitVec 32 := 23#32
  let v24 : BitVec 32 := Scalar.addi c0_i32 c23_i32
  let c1_i32 : BitVec 32 := 1#32
  ⟨c0_i32, v24, c1_i32⟩
def k1_off1 (k1_t1 : Fin k1_t1_loop.trips) : Fin 2 → Nat :=
  let c0_i32 : BitVec 32 := 0#32
  let c1_i32 : BitVec 32 := 1#32
  let arg14 : BitVec 32 := Scf.iv c0_i32 c1_i32 k1_t1
  let v55 : Index := Scalar.indexCast arg14
  let c0_23 : Index := 0#32
  ![v55.toNat, 0]
abbrev stage1_0 : Fin 1 → Memref sig .tc .vmem S128x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S24x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x6144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S2048x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S2048x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S2048x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S2048x2048 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S1x2048 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S1x2048 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))

abbrev grid2 : Pipeline.Grid := ⟨1, ![24], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x576x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .smem S2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x576 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S128x2048 : Shape := ⟨2, ![128, 2048]⟩
abbrev S24x576x2048 : Shape := ⟨3, ![24, 576, 2048]⟩
abbrev S512x6144 : Shape := ⟨2, ![512, 6144]⟩
abbrev S512 : Shape := ⟨1, ![512]⟩
abbrev S2048x512 : Shape := ⟨2, ![2048, 512]⟩
abbrev S2048 : Shape := ⟨1, ![2048]⟩
abbrev S2048x2048 : Shape := ⟨2, ![2048, 2048]⟩
abbrev S_ : Shape := ⟨0, ![]⟩
abbrev S1 : Shape := ⟨1, ![1]⟩
abbrev S24x2048 : Shape := ⟨2, ![24, 2048]⟩
abbrev S1x2048 : Shape := ⟨2, ![1, 2048]⟩
abbrev S6144 : Shape := ⟨1, ![6144]⟩
abbrev S6144x512 : Shape := ⟨2, ![6144, 512]⟩
abbrev S512x2048 : Shape := ⟨2, ![512, 2048]⟩
abbrev S24x576 : Shape := ⟨2, ![24, 576]⟩
abbrev S24x576x1 : Shape := ⟨3, ![24, 576, 1]⟩
abbrev S1x1x2048 : Shape := ⟨3, ![1, 1, 2048]⟩
abbrev S24 : Shape := ⟨1, ![24]⟩
abbrev S24x1 : Shape := ⟨2, ![24, 1]⟩
abbrev S13824 : Shape := ⟨1, ![13824]⟩
abbrev S13824x2048 : Shape := ⟨2, ![13824, 2048]⟩
abbrev S64 : Shape := ⟨1, ![64]⟩
abbrev S64x1 : Shape := ⟨2, ![64, 1]⟩
abbrev S1x1 : Shape := ⟨2, ![1, 1]⟩
abbrev S64x2048 : Shape := ⟨2, ![64, 2048]⟩

abbrev nBuf : Space → Nat
  | .hbm => 258
  | .vmem => 0
  | .smem => 0
  | _ => 0

abbrev hbmTy0_0 (i : Nat) : BufTy := match i % 128 with
  | 0 => ⟨S128x2048, .f32⟩
  | 1 => ⟨S24x576x2048, .f32⟩
  | 2 => ⟨S512x6144, .f32⟩
  | 3 => ⟨S512, .f32⟩
  | 4 => ⟨S2048x512, .f32⟩
  | 5 => ⟨S2048, .f32⟩
  | 6 => ⟨S2048x512, .f32⟩
  | 7 => ⟨S2048, .f32⟩
  | 8 => ⟨S2048x512, .f32⟩
  | 9 => ⟨S2048, .f32⟩
  | 10 => ⟨S2048, .f32⟩
  | 11 => ⟨S2048, .f32⟩
  | 12 => ⟨S2048, .f32⟩
  | 13 => ⟨S2048x2048, .f32⟩
  | 14 => ⟨S2048x2048, .f32⟩
  | 15 => ⟨S2048, .f32⟩
  | 16 => ⟨S2048, .f32⟩
  | 17 => ⟨S_, .f32⟩
  | 18 => ⟨S2048, .f32⟩
  | 19 => ⟨S_, .f32⟩
  | 20 => ⟨S2048, .f32⟩
  | 21 => ⟨S2048, .f32⟩
  | 22 => ⟨S_, .f32⟩
  | 23 => ⟨S_, .f32⟩
  | 24 => ⟨S1, .f32⟩
  | 25 => ⟨S_, .f32⟩
  | 26 => ⟨S1, .f32⟩
  | 27 => ⟨S1, .f32⟩
  | 28 => ⟨S2048, .f32⟩
  | 29 => ⟨S2048, .f32⟩
  | 30 => ⟨S2048, .f32⟩
  | 31 => ⟨S_, .f32⟩
  | 32 => ⟨S_, .f32⟩
  | 33 => ⟨S1, .f32⟩
  | 34 => ⟨S_, .f32⟩
  | 35 => ⟨S1, .f32⟩
  | 36 => ⟨S1, .f32⟩
  | 37 => ⟨S2048, .f32⟩
  | 38 => ⟨S2048, .f32⟩
  | 39 => ⟨S_, .f32⟩
  | 40 => ⟨S1, .f32⟩
  | 41 => ⟨S1, .f32⟩
  | 42 => ⟨S1, .f32⟩
  | 43 => ⟨S2048, .f32⟩
  | 44 => ⟨S2048, .f32⟩
  | 45 => ⟨S_, .f32⟩
  | 46 => ⟨S24x2048, .f32⟩
  | 47 => ⟨S_, .f32⟩
  | 48 => ⟨S24x2048, .f32⟩
  | 49 => ⟨S24x2048, .f32⟩
  | 50 => ⟨S_, .f32⟩
  | 51 => ⟨S2048, .f32⟩
  | 52 => ⟨S_, .f32⟩
  | 53 => ⟨S24x2048, .f32⟩
  | 54 => ⟨S_, .i32⟩
  | 55 => ⟨S24x2048, .f32⟩
  | 56 => ⟨S2048, .f32⟩
  | 57 => ⟨S512x6144, .f32⟩
  | 58 => ⟨S512, .f32⟩
  | 59 => ⟨S2048x512, .f32⟩
  | 60 => ⟨S2048, .f32⟩
  | 61 => ⟨S2048, .f32⟩
  | 62 => ⟨S2048x512, .f32⟩
  | 63 => ⟨S2048, .f32⟩
  | 64 => ⟨S2048, .f32⟩
  | 65 => ⟨S2048x512, .f32⟩
  | 66 => ⟨S2048, .f32⟩
  | 67 => ⟨S2048, .f32⟩
  | 68 => ⟨S_, .i32⟩
  | 69 => ⟨S2048, .f32⟩
  | 70 => ⟨S24x2048, .f32⟩
  | 71 => ⟨S_, .i32⟩
  | 72 => ⟨S_, .i1⟩
  | 73 => ⟨S_, .i32⟩
  | 74 => ⟨S1x2048, .f32⟩
  | 75 => ⟨S2048, .f32⟩
  | 76 => ⟨S2048, .f32⟩
  | 77 => ⟨S2048, .f32⟩
  | 78 => ⟨S_, .f32⟩
  | 79 => ⟨S2048, .f32⟩
  | 80 => ⟨S2048, .f32⟩
  | 81 => ⟨S_, .f32⟩
  | 82 => ⟨S2048, .f32⟩
  | 83 => ⟨S2048, .f32⟩
  | 84 => ⟨S6144, .f32⟩
  | 85 => ⟨S6144x512, .f32⟩
  | 86 => ⟨S512, .f32⟩
  | 87 => ⟨S512, .f32⟩
  | 88 => ⟨S_, .f32⟩
  | 89 => ⟨S512, .f32⟩
  | 90 => ⟨S512, .f32⟩
  | 91 => ⟨S512x2048, .f32⟩
  | 92 => ⟨S2048, .f32⟩
  | 93 => ⟨S2048, .f32⟩
  | 94 => ⟨S2048, .f32⟩
  | 95 => ⟨S2048, .f32⟩
  | 96 => ⟨S512x2048, .f32⟩
  | 97 => ⟨S2048, .f32⟩
  | 98 => ⟨S2048, .f32⟩
  | 99 => ⟨S2048, .f32⟩
  | 100 => ⟨S2048, .f32⟩
  | 101 => ⟨S2048, .f32⟩
  | 102 => ⟨S_, .f32⟩
  | 103 => ⟨S2048, .f32⟩
  | 104 => ⟨S2048, .f32⟩
  | 105 => ⟨S_, .f32⟩
  | 106 => ⟨S2048, .f32⟩
  | 107 => ⟨S2048, .f32⟩
  | 108 => ⟨S512x2048, .f32⟩
  | 109 => ⟨S2048, .f32⟩
  | 110 => ⟨S2048, .f32⟩
  | 111 => ⟨S2048, .f32⟩
  | 112 => ⟨S2048, .f32⟩
  | 113 => ⟨S2048, .f32⟩
  | 114 => ⟨S_, .f32⟩
  | 115 => ⟨S2048, .f32⟩
  | 116 => ⟨S2048, .f32⟩
  | 117 => ⟨S_, .f32⟩
  | 118 => ⟨S2048, .f32⟩
  | 119 => ⟨S2048, .f32⟩
  | 120 => ⟨S2048, .f32⟩
  | 121 => ⟨S2048, .f32⟩
  | 122 => ⟨S2048, .f32⟩
  | 123 => ⟨S1x2048, .f32⟩
  | 124 => ⟨S_, .i32⟩
  | 125 => ⟨S24x2048, .f32⟩
  | 126 => ⟨S_, .i32⟩
  | 127 => ⟨S_, .i32⟩
  | _ => ⟨S128x2048, .f32⟩

abbrev hbmTy0_1 (i : Nat) : BufTy := match i % 128 with
  | 0 => ⟨S1x2048, .f32⟩
  | 1 => ⟨S2048, .f32⟩
  | 2 => ⟨S2048x2048, .f32⟩
  | 3 => ⟨S2048, .f32⟩
  | 4 => ⟨S_, .f32⟩
  | 5 => ⟨S_, .f32⟩
  | 6 => ⟨S1, .f32⟩
  | 7 => ⟨S_, .f32⟩
  | 8 => ⟨S1, .f32⟩
  | 9 => ⟨S1, .f32⟩
  | 10 => ⟨S2048, .f32⟩
  | 11 => ⟨S2048, .f32⟩
  | 12 => ⟨S2048, .f32⟩
  | 13 => ⟨S_, .f32⟩
  | 14 => ⟨S_, .f32⟩
  | 15 => ⟨S1, .f32⟩
  | 16 => ⟨S_, .f32⟩
  | 17 => ⟨S1, .f32⟩
  | 18 => ⟨S1, .f32⟩
  | 19 => ⟨S2048, .f32⟩
  | 20 => ⟨S2048, .f32⟩
  | 21 => ⟨S_, .f32⟩
  | 22 => ⟨S1, .f32⟩
  | 23 => ⟨S1, .f32⟩
  | 24 => ⟨S1, .f32⟩
  | 25 => ⟨S2048, .f32⟩
  | 26 => ⟨S2048, .f32⟩
  | 27 => ⟨S2048, .f32⟩
  | 28 => ⟨S2048, .f32⟩
  | 29 => ⟨S2048x2048, .f32⟩
  | 30 => ⟨S24x576x2048, .f32⟩
  | 31 => ⟨S_, .f32⟩
  | 32 => ⟨S24x576, .f32⟩
  | 33 => ⟨S24x576x1, .f32⟩
  | 34 => ⟨S_, .f32⟩
  | 35 => ⟨S24x576x1, .f32⟩
  | 36 => ⟨S24x576x1, .f32⟩
  | 37 => ⟨S24x576x2048, .f32⟩
  | 38 => ⟨S24x576x2048, .f32⟩
  | 39 => ⟨S24x576x2048, .f32⟩
  | 40 => ⟨S_, .f32⟩
  | 41 => ⟨S24x576, .f32⟩
  | 42 => ⟨S24x576x1, .f32⟩
  | 43 => ⟨S_, .f32⟩
  | 44 => ⟨S24x576x1, .f32⟩
  | 45 => ⟨S24x576x1, .f32⟩
  | 46 => ⟨S24x576x2048, .f32⟩
  | 47 => ⟨S24x576x2048, .f32⟩
  | 48 => ⟨S_, .f32⟩
  | 49 => ⟨S24x576x1, .f32⟩
  | 50 => ⟨S24x576x1, .f32⟩
  | 51 => ⟨S24x576x1, .f32⟩
  | 52 => ⟨S24x576x2048, .f32⟩
  | 53 => ⟨S24x576x2048, .f32⟩
  | 54 => ⟨S1x1x2048, .f32⟩
  | 55 => ⟨S24x576x2048, .f32⟩
  | 56 => ⟨S24x576x2048, .f32⟩
  | 57 => ⟨S1x1x2048, .f32⟩
  | 58 => ⟨S24x576x2048, .f32⟩
  | 59 => ⟨S24x576x2048, .f32⟩
  | 60 => ⟨S1x1x2048, .f32⟩
  | 61 => ⟨S24x576x2048, .f32⟩
  | 62 => ⟨S24x576x2048, .f32⟩
  | 63 => ⟨S_, .f32⟩
  | 64 => ⟨S24x576, .f32⟩
  | 65 => ⟨S_, .f32⟩
  | 66 => ⟨S24, .f32⟩
  | 67 => ⟨S24x1, .f32⟩
  | 68 => ⟨S_, .f32⟩
  | 69 => ⟨S24x1, .f32⟩
  | 70 => ⟨S24x1, .f32⟩
  | 71 => ⟨S_, .i32⟩
  | 72 => ⟨S_, .f32⟩
  | 73 => ⟨S24, .f32⟩
  | 74 => ⟨S24x1, .f32⟩
  | 75 => ⟨S_, .f32⟩
  | 76 => ⟨S24x1, .f32⟩
  | 77 => ⟨S24x1, .f32⟩
  | 78 => ⟨S24x576, .f32⟩
  | 79 => ⟨S24x576, .f32⟩
  | 80 => ⟨S24x576, .f32⟩
  | 81 => ⟨S_, .f32⟩
  | 82 => ⟨S_, .f32⟩
  | 83 => ⟨S_, .f32⟩
  | 84 => ⟨S_, .f32⟩
  | 85 => ⟨S24, .f32⟩
  | 86 => ⟨S24x1, .f32⟩
  | 87 => ⟨S24x1, .f32⟩
  | 88 => ⟨S24x1, .f32⟩
  | 89 => ⟨S_, .f32⟩
  | 90 => ⟨S_, .i1⟩
  | 91 => ⟨S_, .f32⟩
  | 92 => ⟨S_, .f32⟩
  | 93 => ⟨S24x1, .f32⟩
  | 94 => ⟨S24x1, .f32⟩
  | 95 => ⟨S24x1, .f32⟩
  | 96 => ⟨S24x576, .f32⟩
  | 97 => ⟨S24x576, .f32⟩
  | 98 => ⟨S_, .f32⟩
  | 99 => ⟨S24x1, .f32⟩
  | 100 => ⟨S24x1, .f32⟩
  | 101 => ⟨S24x576, .f32⟩
  | 102 => ⟨S24x576, .f32⟩
  | 103 => ⟨S13824, .f32⟩
  | 104 => ⟨S13824x2048, .f32⟩
  | 105 => ⟨S64, .f32⟩
  | 106 => ⟨S64, .i32⟩
  | 107 => ⟨S_, .i32⟩
  | 108 => ⟨S64, .i32⟩
  | 109 => ⟨S64, .i1⟩
  | 110 => ⟨S_, .i32⟩
  | 111 => ⟨S64, .i32⟩
  | 112 => ⟨S64, .i32⟩
  | 113 => ⟨S64, .i32⟩
  | 114 => ⟨S64x1, .i32⟩
  | 115 => ⟨S1, .i32⟩
  | 116 => ⟨S_, .i32⟩
  | 117 => ⟨S64x1, .i32⟩
  | 118 => ⟨S64x1, .i1⟩
  | 119 => ⟨S1x1, .i32⟩
  | 120 => ⟨S64x1, .i32⟩
  | 121 => ⟨S64x1, .i1⟩
  | 122 => ⟨S64x1, .i1⟩
  | 123 => ⟨S_, .i1⟩
  | 124 => ⟨S64, .i1⟩
  | 125 => ⟨S64x2048, .f32⟩
  | 126 => ⟨S64x2048, .i1⟩
  | 127 => ⟨S_, .f32⟩
  | _ => ⟨S128x2048, .f32⟩

abbrev hbmTy0_2 (i : Nat) : BufTy := match i % 128 with
  | 0 => ⟨S64x2048, .f32⟩
  | 1 => ⟨S64x2048, .f32⟩
  | _ => ⟨S128x2048, .f32⟩

abbrev hbmTy (i : Nat) : BufTy := match i / 128 with
  | 0 => hbmTy0_0 i
  | 1 => hbmTy0_1 i
  | 2 => hbmTy0_2 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_v4 : Ref sig .tc := ⟨.hbm, 24, rfl⟩
abbrev main_cst_2 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_3 : Ref sig .tc := ⟨.hbm, 31, rfl⟩
abbrev main_v10 : Ref sig .tc := ⟨.hbm, 32, rfl⟩
abbrev main_v11 : Ref sig .tc := ⟨.hbm, 33, rfl⟩
abbrev main_cst_4 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_cst_7 : Ref sig .tc := ⟨.hbm, 47, rfl⟩
abbrev main_v22 : Ref sig .tc := ⟨.hbm, 48, rfl⟩
abbrev main_v23 : Ref sig .tc := ⟨.hbm, 49, rfl⟩
abbrev main_cst_8 : Ref sig .tc := ⟨.hbm, 50, rfl⟩
abbrev main_v24 : Ref sig .tc := ⟨.hbm, 51, rfl⟩
abbrev main_cst_9 : Ref sig .tc := ⟨.hbm, 52, rfl⟩
abbrev main_v25 : Ref sig .tc := ⟨.hbm, 53, rfl⟩
abbrev main_c : Ref sig .tc := ⟨.hbm, 54, rfl⟩
abbrev main_v26_0 : Ref sig .tc := ⟨.hbm, 55, rfl⟩
abbrev main_v26_1 : Ref sig .tc := ⟨.hbm, 56, rfl⟩
abbrev main_v26_2 : Ref sig .tc := ⟨.hbm, 57, rfl⟩
abbrev main_v26_3 : Ref sig .tc := ⟨.hbm, 58, rfl⟩
abbrev main_v26_4 : Ref sig .tc := ⟨.hbm, 59, rfl⟩
abbrev main_v26_5 : Ref sig .tc := ⟨.hbm, 60, rfl⟩
abbrev main_v26_6 : Ref sig .tc := ⟨.hbm, 61, rfl⟩
abbrev main_v26_7 : Ref sig .tc := ⟨.hbm, 62, rfl⟩
abbrev main_v26_8 : Ref sig .tc := ⟨.hbm, 63, rfl⟩
abbrev main_v26_9 : Ref sig .tc := ⟨.hbm, 64, rfl⟩
abbrev main_v26_10 : Ref sig .tc := ⟨.hbm, 65, rfl⟩
abbrev main_v26_11 : Ref sig .tc := ⟨.hbm, 66, rfl⟩
abbrev main_v26_12 : Ref sig .tc := ⟨.hbm, 67, rfl⟩
abbrev main_v26_13 : Ref sig .tc := ⟨.hbm, 68, rfl⟩
abbrev main_v26_14 : Ref sig .tc := ⟨.hbm, 69, rfl⟩
abbrev main_v26_15 : Ref sig .tc := ⟨.hbm, 70, rfl⟩
abbrev main_while0c_c_40 : Ref sig .tc := ⟨.hbm, 71, rfl⟩
abbrev main_while0c_v95 : Ref sig .tc := ⟨.hbm, 72, rfl⟩
abbrev main_while0b_call0_c : Ref sig .tc := ⟨.hbm, 73, rfl⟩
abbrev main_while0b_call0_v0 : Ref sig .tc := ⟨.hbm, 74, rfl⟩
abbrev main_while0b_v95 : Ref sig .tc := ⟨.hbm, 75, rfl⟩
abbrev main_while0b_v96 : Ref sig .tc := ⟨.hbm, 76, rfl⟩
abbrev main_while0b_v97 : Ref sig .tc := ⟨.hbm, 77, rfl⟩
abbrev main_while0b_cst_40 : Ref sig .tc := ⟨.hbm, 78, rfl⟩
abbrev main_while0b_v98 : Ref sig .tc := ⟨.hbm, 79, rfl⟩
abbrev main_while0b_v99 : Ref sig .tc := ⟨.hbm, 80, rfl⟩
abbrev main_while0b_cst_41 : Ref sig .tc := ⟨.hbm, 81, rfl⟩
abbrev main_while0b_v100 : Ref sig .tc := ⟨.hbm, 82, rfl⟩
abbrev main_while0b_v101 : Ref sig .tc := ⟨.hbm, 83, rfl⟩
abbrev main_while0b_v102 : Ref sig .tc := ⟨.hbm, 84, rfl⟩
abbrev main_while0b_v103 : Ref sig .tc := ⟨.hbm, 85, rfl⟩
abbrev main_while0b_v104 : Ref sig .tc := ⟨.hbm, 86, rfl⟩
abbrev main_while0b_v105 : Ref sig .tc := ⟨.hbm, 87, rfl⟩
abbrev main_while0b_call1_cst : Ref sig .tc := ⟨.hbm, 88, rfl⟩
abbrev main_while0b_call1_v0 : Ref sig .tc := ⟨.hbm, 89, rfl⟩
abbrev main_while0b_v106 : Ref sig .tc := ⟨.hbm, 90, rfl⟩
abbrev main_while0b_v107 : Ref sig .tc := ⟨.hbm, 91, rfl⟩
abbrev main_while0b_v108 : Ref sig .tc := ⟨.hbm, 92, rfl⟩
abbrev main_while0b_v109 : Ref sig .tc := ⟨.hbm, 93, rfl⟩
abbrev main_while0b_v110 : Ref sig .tc := ⟨.hbm, 94, rfl⟩
abbrev main_while0b_v111 : Ref sig .tc := ⟨.hbm, 95, rfl⟩
abbrev main_while0b_v112 : Ref sig .tc := ⟨.hbm, 96, rfl⟩
abbrev main_while0b_v113 : Ref sig .tc := ⟨.hbm, 97, rfl⟩
abbrev main_while0b_v114 : Ref sig .tc := ⟨.hbm, 98, rfl⟩
abbrev main_while0b_v115 : Ref sig .tc := ⟨.hbm, 99, rfl⟩
abbrev main_while0b_v116 : Ref sig .tc := ⟨.hbm, 100, rfl⟩
abbrev main_while0b_v117 : Ref sig .tc := ⟨.hbm, 101, rfl⟩
abbrev main_while0b_cst_42 : Ref sig .tc := ⟨.hbm, 102, rfl⟩
abbrev main_while0b_v118 : Ref sig .tc := ⟨.hbm, 103, rfl⟩
abbrev main_while0b_v119 : Ref sig .tc := ⟨.hbm, 104, rfl⟩
abbrev main_while0b_cst_43 : Ref sig .tc := ⟨.hbm, 105, rfl⟩
abbrev main_while0b_v120 : Ref sig .tc := ⟨.hbm, 106, rfl⟩
abbrev main_while0b_v121 : Ref sig .tc := ⟨.hbm, 107, rfl⟩
abbrev main_while0b_v122 : Ref sig .tc := ⟨.hbm, 108, rfl⟩
abbrev main_while0b_v123 : Ref sig .tc := ⟨.hbm, 109, rfl⟩
abbrev main_while0b_v124 : Ref sig .tc := ⟨.hbm, 110, rfl⟩
abbrev main_while0b_v125 : Ref sig .tc := ⟨.hbm, 111, rfl⟩
abbrev main_while0b_v126 : Ref sig .tc := ⟨.hbm, 112, rfl⟩
abbrev main_while0b_v127 : Ref sig .tc := ⟨.hbm, 113, rfl⟩
abbrev main_while0b_cst_44 : Ref sig .tc := ⟨.hbm, 114, rfl⟩
abbrev main_while0b_v128 : Ref sig .tc := ⟨.hbm, 115, rfl⟩
abbrev main_while0b_v129 : Ref sig .tc := ⟨.hbm, 116, rfl⟩
abbrev main_while0b_cst_45 : Ref sig .tc := ⟨.hbm, 117, rfl⟩
abbrev main_while0b_v130 : Ref sig .tc := ⟨.hbm, 118, rfl⟩
abbrev main_while0b_v131 : Ref sig .tc := ⟨.hbm, 119, rfl⟩
abbrev main_while0b_v132 : Ref sig .tc := ⟨.hbm, 120, rfl⟩
abbrev main_while0b_v133 : Ref sig .tc := ⟨.hbm, 121, rfl⟩
abbrev main_while0b_v134 : Ref sig .tc := ⟨.hbm, 122, rfl⟩
abbrev main_while0b_call2_v0 : Ref sig .tc := ⟨.hbm, 123, rfl⟩
abbrev main_while0b_call2_c : Ref sig .tc := ⟨.hbm, 124, rfl⟩
abbrev main_while0b_v135 : Ref sig .tc := ⟨.hbm, 125, rfl⟩
abbrev main_while0b_c_46 : Ref sig .tc := ⟨.hbm, 126, rfl⟩
abbrev main_while0b_v136 : Ref sig .tc := ⟨.hbm, 127, rfl⟩
abbrev main_v27 : Ref sig .tc := ⟨.hbm, 128, rfl⟩
abbrev main_v28 : Ref sig .tc := ⟨.hbm, 129, rfl⟩
abbrev main_v29 : Ref sig .tc := ⟨.hbm, 130, rfl⟩
abbrev main_v30 : Ref sig .tc := ⟨.hbm, 131, rfl⟩
abbrev main_cst_10 : Ref sig .tc := ⟨.hbm, 132, rfl⟩
abbrev main_v31 : Ref sig .tc := ⟨.hbm, 133, rfl⟩
abbrev main_v32 : Ref sig .tc := ⟨.hbm, 134, rfl⟩
abbrev main_cst_11 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_cst_12 : Ref sig .tc := ⟨.hbm, 141, rfl⟩
abbrev main_v38 : Ref sig .tc := ⟨.hbm, 142, rfl⟩
abbrev main_v39 : Ref sig .tc := ⟨.hbm, 143, rfl⟩
abbrev main_cst_13 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_cst_14 : Ref sig .tc := ⟨.hbm, 149, rfl⟩
abbrev main_v44 : Ref sig .tc := ⟨.hbm, 150, rfl⟩
abbrev main_v45 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_cst_15 : Ref sig .tc := ⟨.hbm, 159, rfl⟩
abbrev main_v53 : Ref sig .tc := ⟨.hbm, 160, rfl⟩
abbrev main_v54 : Ref sig .tc := ⟨.hbm, 161, rfl⟩
abbrev main_cst_16 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_cst_17 : Ref sig .tc := ⟨.hbm, 168, rfl⟩
abbrev main_v60 : Ref sig .tc := ⟨.hbm, 169, rfl⟩
abbrev main_v61 : Ref sig .tc := ⟨.hbm, 170, rfl⟩
abbrev main_cst_18 : Ref sig .tc := ⟨.hbm, 171, rfl⟩
abbrev main_v62 : Ref sig .tc := ⟨.hbm, 172, rfl⟩
abbrev main_v63 : Ref sig .tc := ⟨.hbm, 173, rfl⟩
abbrev main_v64 : Ref sig .tc := ⟨.hbm, 174, rfl⟩
abbrev main_v65 : Ref sig .tc := ⟨.hbm, 175, rfl⟩
abbrev main_cst_19 : Ref sig .tc := ⟨.hbm, 176, rfl⟩
abbrev main_v66 : Ref sig .tc := ⟨.hbm, 177, rfl⟩
abbrev main_v67 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_v77 : Ref sig .tc := ⟨.hbm, 188, rfl⟩
abbrev main_v78 : Ref sig .tc := ⟨.hbm, 189, rfl⟩
abbrev main_v79 : Ref sig .tc := ⟨.hbm, 190, rfl⟩
abbrev main_cst_20 : Ref sig .tc := ⟨.hbm, 191, rfl⟩
abbrev main_v80 : Ref sig .tc := ⟨.hbm, 192, rfl⟩
abbrev main_cst_21 : Ref sig .tc := ⟨.hbm, 193, rfl⟩
abbrev main_v81 : Ref sig .tc := ⟨.hbm, 194, rfl⟩
abbrev main_v82 : Ref sig .tc := ⟨.hbm, 195, rfl⟩
abbrev main_cst_22 : Ref sig .tc := ⟨.hbm, 196, rfl⟩
abbrev main_v83 : Ref sig .tc := ⟨.hbm, 197, rfl⟩
abbrev main_v84 : Ref sig .tc := ⟨.hbm, 198, rfl⟩
abbrev main_c_23 : Ref sig .tc := ⟨.hbm, 199, rfl⟩
abbrev main_call3_call0_cst : Ref sig .tc := ⟨.hbm, 200, rfl⟩
abbrev main_call3_call0_v0 : Ref sig .tc := ⟨.hbm, 201, rfl⟩
abbrev main_call3_call0_v1 : Ref sig .tc := ⟨.hbm, 202, rfl⟩
abbrev main_call3_call0_cst_0 : Ref sig .tc := ⟨.hbm, 203, rfl⟩
abbrev main_call3_call0_v2 : Ref sig .tc := ⟨.hbm, 204, rfl⟩
abbrev main_call3_call0_v3 : Ref sig .tc := ⟨.hbm, 205, rfl⟩
abbrev main_call3_call0_v4 : Ref sig .tc := ⟨.hbm, 206, rfl⟩
abbrev main_call3_call0_v5 : Ref sig .tc := ⟨.hbm, 207, rfl⟩
abbrev main_call3_call0_v6 : Ref sig .tc := ⟨.hbm, 208, rfl⟩
abbrev main_call3_call0_v7 : Ref sig .tc := ⟨.hbm, 209, rfl⟩
abbrev main_call3_call0_cst_1 : Ref sig .tc := ⟨.hbm, 210, rfl⟩
abbrev main_call3_call0_v8 : Ref sig .tc := ⟨.hbm, 211, rfl⟩
abbrev main_call3_call0_cst_2 : Ref sig .tc := ⟨.hbm, 212, rfl⟩
abbrev main_call3_call0_v9 : Ref sig .tc := ⟨.hbm, 213, rfl⟩
abbrev main_call3_call0_v10 : Ref sig .tc := ⟨.hbm, 214, rfl⟩
abbrev main_call3_call0_v11 : Ref sig .tc := ⟨.hbm, 215, rfl⟩
abbrev main_call3_call0_v12 : Ref sig .tc := ⟨.hbm, 216, rfl⟩
abbrev main_call3_call0_cst_3 : Ref sig .tc := ⟨.hbm, 217, rfl⟩
abbrev main_call3_call0_v13 : Ref sig .tc := ⟨.hbm, 218, rfl⟩
abbrev main_call3_call0_cst_4 : Ref sig .tc := ⟨.hbm, 219, rfl⟩
abbrev main_call3_call0_call0_v0 : Ref sig .tc := ⟨.hbm, 220, rfl⟩
abbrev main_call3_call0_call0_v1 : Ref sig .tc := ⟨.hbm, 221, rfl⟩
abbrev main_call3_v0 : Ref sig .tc := ⟨.hbm, 222, rfl⟩
abbrev main_v85 : Ref sig .tc := ⟨.hbm, 223, rfl⟩
abbrev main_v86 : Ref sig .tc := ⟨.hbm, 224, rfl⟩
abbrev main_v87 : Ref sig .tc := ⟨.hbm, 225, rfl⟩
abbrev main_cst_24 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_v92 : Ref sig .tc := ⟨.hbm, 231, rfl⟩
abbrev main_v93 : Ref sig .tc := ⟨.hbm, 232, rfl⟩
abbrev main_values : Ref sig .tc := ⟨.hbm, 233, rfl⟩
abbrev main_indices : Ref sig .tc := ⟨.hbm, 234, rfl⟩
abbrev main_call4_c : Ref sig .tc := ⟨.hbm, 235, rfl⟩
abbrev main_call4_v0 : Ref sig .tc := ⟨.hbm, 236, rfl⟩
abbrev main_call4_v1 : Ref sig .tc := ⟨.hbm, 237, rfl⟩
abbrev main_call4_c_0 : Ref sig .tc := ⟨.hbm, 238, rfl⟩
abbrev main_call4_v2 : Ref sig .tc := ⟨.hbm, 239, rfl⟩
abbrev main_call4_v3 : Ref sig .tc := ⟨.hbm, 240, rfl⟩
abbrev main_call4_v4 : Ref sig .tc := ⟨.hbm, 241, rfl⟩
abbrev main_call4_v5 : Ref sig .tc := ⟨.hbm, 242, rfl⟩
abbrev main_call4_c_1 : Ref sig .tc := ⟨.hbm, 243, rfl⟩
abbrev main_call4_c_2 : Ref sig .tc := ⟨.hbm, 244, rfl⟩
abbrev main_call4_v6 : Ref sig .tc := ⟨.hbm, 245, rfl⟩
abbrev main_call4_v7 : Ref sig .tc := ⟨.hbm, 246, rfl⟩
abbrev main_call4_v8 : Ref sig .tc := ⟨.hbm, 247, rfl⟩
abbrev main_call4_v9 : Ref sig .tc := ⟨.hbm, 248, rfl⟩
abbrev main_call4_v10 : Ref sig .tc := ⟨.hbm, 249, rfl⟩
abbrev main_call4_v11 : Ref sig .tc := ⟨.hbm, 250, rfl⟩
abbrev main_call4_c_3 : Ref sig .tc := ⟨.hbm, 251, rfl⟩
abbrev main_call4_v12 : Ref sig .tc := ⟨.hbm, 252, rfl⟩
abbrev main_call4_v13 : Ref sig .tc := ⟨.hbm, 253, rfl⟩
abbrev main_call4_v14 : Ref sig .tc := ⟨.hbm, 254, rfl⟩
abbrev main_call4_cst : Ref sig .tc := ⟨.hbm, 255, rfl⟩
abbrev main_call4_v15 : Ref sig .tc := ⟨.hbm, 256, rfl⟩
abbrev main_v94 : Ref sig .tc := ⟨.hbm, 257, rfl⟩

abbrev nD : Nat := 1
abbrev τ : Topo := Topo.v7x

variable {F : FTy → Type} [FloatOps F]

abbrev main_while0_count : Scf.Loop 32 := ⟨0#32, 24#32, 1#32⟩
-- ==== Proof.KernelRun.lean ====
/-
  The kernel's run: every buffer of the TensorCore ends at the contents that the program's regions and host operations,
  taken in turn from the launch memory, leave in it.
-/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- Every weakly fair execution of the kernel's program ends with every unscoped buffer at the last boundary's contents. -/
theorem run_contents : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.KernelIdeal.Run

end
-- ==== Proof.Algebra.lean ====
/-
  The extended-real algebra of the two scores: layer normalisation of a row, the score of a normalised key row
  against a query in its factored form, and the standardisation of a row of scores.
-/
module

public import Idealize.ShloMosaic.PureOps.Ideal
public import Idealize.ShloMosaic.PureOps.IdealRules
public import Idealize.ShloMosaic.Lib.IdealHost

@[expose] public section

noncomputable section

namespace Cert.Score

open Idealize.ShloMosaic

variable {n : ℕ}

/-- The mean of a row, its divisor given. -/
def mean (N : EReal) (u : Fin n → EReal) : EReal := Ideal.div (∑ i, u i) N

/-- The mean squared distance of a row from its mean. -/
def spread (N : EReal) (u : Fin n → EReal) : EReal := Ideal.div (∑ i, (u i - mean N u) * (u i - mean N u)) N

/-- A row normalised: its distance from the mean over the root of its spread plus `e`. -/
def lnorm (N e : EReal) (u : Fin n → EReal) (d : Fin n) : EReal :=
  Ideal.div (u d - mean N u) (Ideal.sqrt (spread N u + e))

/-- A row standardised: its distance from the mean over `e` plus the root of its spread. -/
def zscore (N e : EReal) (u : Fin n → EReal) (d : Fin n) : EReal :=
  Ideal.div (u d - mean N u) (Ideal.sqrt (spread N u) + e)

/-- The score of a key row `v` normalised, scaled by `w` and shifted by `b`, against the query `q`. -/
def plainScore (N e : EReal) (v w b q : Fin n → EReal) : EReal :=
  ∑ d, (lnorm N e v d * w d + b d) * q d

/-- The same score in factored form: from the row's dot product with `p`, its sum and its sum of squares,
    `I` standing for the reciprocal of the row's length, `s0` for the sum of `p` and `s1` for the shift's share. -/
def factoredScore (I e : EReal) (v p : Fin n → EReal) (s0 s1 : EReal) : EReal :=
  Ideal.div ((∑ d, v d * p d) - (∑ d, v d) * I * s0)
    (Ideal.sqrt ((∑ d, v d * v d) * I - (∑ d, v d) * I * ((∑ d, v d) * I) + e)) + s1

/-! ## Finite and infinite values -/

/-- A value that is a real number. -/
def IsReal (x : EReal) : Prop := ∃ r : ℝ, x = (r : EReal)

/-- A value is a real number unless it is one of the two infinities. -/
theorem isReal_or (x : EReal) : IsReal x ∨ x = ⊤ ∨ x = ⊥ := by
  induction x using EReal.rec with
  | bot => exact .inr (.inr rfl)
  | coe r => exact .inl ⟨r, rfl⟩
  | top => exact .inr (.inl rfl)

/-- A row all of whose entries are real numbers is the row of those real numbers. -/
theorem exists_real_row {u : Fin n → EReal} (h : ∀ i, IsReal (u i)) : ∃ r : Fin n → ℝ, u = fun i => (r i : EReal) := by
  choose r hr using h
  exact ⟨r, funext hr⟩

/-- A sum of real numbers, taken as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum with the value `⊥` among its terms is `⊥`. -/
theorem sum_eq_bot {ι : Type} (s : Finset ι) (f : ι → EReal) {i : ι} (hi : i ∈ s) (h : f i = ⊥) : ∑ i ∈ s, f i = ⊥ := by
  classical
  rw [← Finset.add_sum_erase s f hi, h, EReal.bot_add]

/-- A sum without the value `⊥` among its terms is not `⊥`. -/
theorem sum_ne_bot {ι : Type} (s : Finset ι) (f : ι → EReal) (h : ∀ i ∈ s, f i ≠ ⊥) : ∑ i ∈ s, f i ≠ ⊥ := by
  classical
  induction s using Finset.induction_on with
  | empty => simp
  | insert a s ha ih =>
    rw [Finset.sum_insert ha]
    intro h0
    rcases EReal.add_eq_bot_iff.mp h0 with h1 | h1
    · exact h a (Finset.mem_insert_self _ _) h1
    · exact ih (fun i hi => h i (Finset.mem_insert_of_mem hi)) h1

/-- A sum without `⊥` and with `⊤` among its terms is `⊤`. -/
theorem sum_eq_top {ι : Type} (s : Finset ι) (f : ι → EReal) (h : ∀ i ∈ s, f i ≠ ⊥) {i : ι} (hi : i ∈ s) (ht : f i = ⊤) :
    ∑ i ∈ s, f i = ⊤ := by
  classical
  rw [← Finset.add_sum_erase s f hi, ht]
  exact EReal.top_add_of_ne_bot (sum_ne_bot _ _ fun j hj => h j (Finset.mem_of_mem_erase hj))

/-- A sum with an infinite term is infinite. -/
theorem sum_inf {ι : Type} (s : Finset ι) (f : ι → EReal) {i : ι} (hi : i ∈ s) (h : f i = ⊤ ∨ f i = ⊥) :
    ∑ i ∈ s, f i = ⊤ ∨ ∑ i ∈ s, f i = ⊥ := by
  by_cases hb : ∃ j ∈ s, f j = ⊥
  · obtain ⟨j, hj, hjb⟩ := hb
    exact .inr (sum_eq_bot s f hj hjb)
  · have hb' : ∀ j ∈ s, f j ≠ ⊥ := fun j hj h' => hb ⟨j, hj, h'⟩
    exact .inl (sum_eq_top s f hb' hi (h.resolve_right (hb' i hi)))

/-- The square of an infinite value is `⊤`. -/
theorem sq_of_inf {x : EReal} (h : x = ⊤ ∨ x = ⊥) : x * x = ⊤ := by
  rcases h with rfl | rfl
  · exact EReal.top_mul_top
  · exact EReal.bot_mul_bot

/-- A square is not `⊥`. -/
theorem sq_ne_bot (x : EReal) : x * x ≠ ⊥ := by
  rcases isReal_or x with ⟨r, rfl⟩ | h
  · rw [← EReal.coe_mul]; exact EReal.coe_ne_bot _
  · rw [sq_of_inf h]; exact top_ne_bot

/-- An infinite value times a positive real number is the same infinite value. -/
theorem inf_mul_pos {x : EReal} (h : x = ⊤ ∨ x = ⊥) {r : ℝ} (hr : 0 < r) : x * (r : EReal) = x := by
  rcases h with rfl | rfl
  · exact EReal.top_mul_coe_of_pos hr
  · exact EReal.bot_mul_coe_of_pos hr

/-- Whatever is divided by an infinite value gives zero. -/
theorem div_inf (x : EReal) {y : EReal} (h : y = ⊤ ∨ y = ⊥) : Ideal.div x y = 0 := by
  have h0 : y ≠ 0 := by rcases h with rfl | rfl <;> simp
  rw [Ideal.div, if_neg h0]
  rcases h with rfl | rfl <;> simp

/-- Division of real numbers by a nonzero one. -/
theorem div_real (x : ℝ) {y : ℝ} (h : y ≠ 0) : Ideal.div (x : EReal) (y : EReal) = ((x / y : ℝ) : EReal) := by
  rw [Ideal.div_coe h, ← EReal.coe_mul, mul_one_div]

/-- An infinite value divided by a positive real number is the same infinite value. -/
theorem inf_div_pos {x : EReal} (h : x = ⊤ ∨ x = ⊥) {r : ℝ} (hr : 0 < r) : Ideal.div x (r : EReal) = x := by
  rw [Ideal.div_coe hr.ne']
  exact inf_mul_pos h (by positivity)

/-! ## A row with an infinite entry -/

section Infinite
variable {u : Fin n → EReal} {N : ℝ} (hN : 0 < N) {i : Fin n} (hi : u i = ⊤ ∨ u i = ⊥)
include hN hi

/-- Its mean is infinite, -/
theorem mean_inf : mean (N : EReal) u = ⊤ ∨ mean (N : EReal) u = ⊥ := by
  have h := sum_inf Finset.univ u (Finset.mem_univ i) hi
  rw [mean, inf_div_pos h hN]
  exact h

/-- every entry is infinitely far from the mean, -/
theorem sub_mean_inf (d : Fin n) : u d - mean (N : EReal) u = ⊤ ∨ u d - mean (N : EReal) u = ⊥ := by
  rcases mean_inf hN hi with h | h
  · rw [h, sub_eq_add_neg, EReal.neg_top, EReal.add_bot]; exact .inr rfl
  · rw [h, sub_eq_add_neg, EReal.neg_bot]
    by_cases hb : u d = ⊥
    · rw [hb, EReal.bot_add]; exact .inr rfl
    · rw [EReal.add_top_of_ne_bot hb]; exact .inl rfl

/-- and its spread is `⊤`. -/
theorem spread_inf : spread (N : EReal) u = ⊤ := by
  have h : ∑ d, (u d - mean (N : EReal) u) * (u d - mean (N : EReal) u) = ⊤ :=
    sum_eq_top _ _ (fun _ _ => sq_ne_bot _) (Finset.mem_univ i) (sq_of_inf (sub_mean_inf hN hi i))
  rw [spread, h]
  exact inf_div_pos (.inl rfl) hN

/-- Normalised, such a row is zero. -/
theorem lnorm_inf (e : ℝ) (d : Fin n) : lnorm (N : EReal) (e : EReal) u d = 0 := by
  rw [lnorm, spread_inf hN hi, EReal.top_add_of_ne_bot (EReal.coe_ne_bot e), Ideal.sqrt_top]
  exact div_inf _ (.inl rfl)

/-- Standardised, such a row is zero. -/
theorem zscore_inf (e : ℝ) (d : Fin n) : zscore (N : EReal) (e : EReal) u d = 0 := by
  rw [zscore, spread_inf hN hi, Ideal.sqrt_top, EReal.top_add_of_ne_bot (EReal.coe_ne_bot e)]
  exact div_inf _ (.inl rfl)

/-- In factored form, the score of such a row is the shift's share alone. -/
theorem factoredScore_inf {I : ℝ} (hI : 0 < I) (e : EReal) (p : Fin n → EReal) (s0 s1 : EReal) :
    factoredScore (I : EReal) e u p s0 s1 = s1 := by
  have hs := sum_inf Finset.univ u (Finset.mem_univ i) hi
  have hq : ∑ d, u d * u d = ⊤ := sum_eq_top _ _ (fun _ _ => sq_ne_bot _) (Finset.mem_univ i) (sq_of_inf hi)
  rw [factoredScore, hq, inf_mul_pos hs hI, sq_of_inf hs, EReal.top_mul_coe_of_pos hI, show (⊤ : EReal) - ⊤ = ⊥ from rfl,
    EReal.bot_add, Ideal.sqrt_bot, div_inf _ (.inr rfl), zero_add]

end Infinite

/-! ## A row of real numbers -/

section Real
variable (r : Fin n → ℝ) {N e : ℝ} (hN : 0 < N)
include hN

/-- The mean of real numbers is their real mean. -/
theorem mean_real : mean (N : EReal) (fun i => (r i : EReal)) = ((∑ i, r i) / N : ℝ) := by
  rw [mean, coe_sum, div_real _ hN.ne']

/-- The spread of real numbers is their real variance. -/
theorem spread_real : spread (N : EReal) (fun i => (r i : EReal))
    = ((∑ i, (r i - (∑ i, r i) / N) * (r i - (∑ i, r i) / N)) / N : ℝ) := by
  rw [spread, mean_real r hN]
  simp only [← EReal.coe_sub, ← EReal.coe_mul]
  rw [coe_sum, div_real _ hN.ne']

/-- The spread of a row of real numbers is nonnegative. -/
theorem spread_nonneg : 0 ≤ (∑ i, (r i - (∑ i, r i) / N) * (r i - (∑ i, r i) / N)) / N :=
  div_nonneg (Finset.sum_nonneg fun i _ => mul_self_nonneg _) hN.le

/-- The normalised row of real numbers is real, given a positive offset. -/
theorem lnorm_real (he : 0 < e) (d : Fin n) : lnorm (N : EReal) (e : EReal) (fun i => (r i : EReal)) d
    = ((r d - (∑ i, r i) / N) / Real.sqrt ((∑ i, (r i - (∑ i, r i) / N) * (r i - (∑ i, r i) / N)) / N + e) : ℝ) := by
  have hp := add_pos_of_nonneg_of_pos (spread_nonneg r hN) he
  rw [lnorm, mean_real r hN, spread_real r hN, ← EReal.coe_add, Ideal.sqrt_coe, if_neg (not_lt.mpr hp.le), ← EReal.coe_sub,
    div_real _ (Real.sqrt_pos.mpr hp).ne']

end Real

/-- A normalised row is a row of real numbers, whatever the row. -/
theorem lnorm_isReal (u : Fin n → EReal) {N e : ℝ} (hN : 0 < N) (he : 0 < e) (d : Fin n) :
    IsReal (lnorm (N : EReal) (e : EReal) u d) := by
  by_cases h : ∀ i, IsReal (u i)
  · obtain ⟨r, rfl⟩ := exists_real_row h
    exact ⟨_, lnorm_real r hN he d⟩
  · push Not at h
    obtain ⟨i, hi⟩ := h
    exact ⟨0, lnorm_inf hN ((isReal_or _).resolve_left hi) e d⟩

/-! ## The two forms of the score -/

/-- The mean of the squares less the square of the mean is the spread. -/
theorem spread_eq (r : Fin n → ℝ) {N : ℝ} (hN : N = n) (h0 : 0 < N) :
    (∑ i, r i * r i) * (1 / N) - (∑ i, r i) * (1 / N) * ((∑ i, r i) * (1 / N))
      = (∑ i, (r i - (∑ i, r i) / N) * (r i - (∑ i, r i) / N)) / N := by
  have h : ∀ i, (r i - (∑ i, r i) / N) * (r i - (∑ i, r i) / N)
      = r i * r i - 2 * ((∑ i, r i) / N) * r i + ((∑ i, r i) / N) * ((∑ i, r i) / N) := fun i => by ring
  simp only [h, Finset.sum_add_distrib, Finset.sum_sub_distrib, ← Finset.mul_sum, Finset.sum_const, Finset.card_univ,
    Fintype.card_fin, nsmul_eq_mul, ← hN]
  field_simp
  ring

/-- On real numbers the factored score is the plain one. -/
theorem score_real (v w b q : Fin n → ℝ) {N e : ℝ} (hN : N = n) (h0 : 0 < N) (he : 0 < e) :
    factoredScore ((1 / N : ℝ) : EReal) (e : EReal) (fun d => (v d : EReal)) (fun d => (w d : EReal) * (q d : EReal))
        (∑ d, (w d : EReal) * (q d : EReal)) (∑ d, (b d : EReal) * (q d : EReal))
      = plainScore (N : EReal) (e : EReal) (fun d => (v d : EReal)) (fun d => (w d : EReal)) (fun d => (b d : EReal))
        (fun d => (q d : EReal)) := by
  have hp := add_pos_of_nonneg_of_pos (spread_nonneg v h0) he
  have hs := (Real.sqrt_pos.mpr hp).ne'
  rw [factoredScore, plainScore]
  simp only [lnorm_real v h0 he, ← EReal.coe_mul, ← EReal.coe_add, coe_sum, ← EReal.coe_sub]
  rw [spread_eq v hN h0, Ideal.sqrt_coe, if_neg (not_lt.mpr hp.le), div_real _ hs, ← EReal.coe_add, EReal.coe_eq_coe_iff]
  set m := (∑ i, v i) / N with hm
  set t := Real.sqrt ((∑ i, (v i - m) * (v i - m)) / N + e)
  have h : ∀ d, ((v d - m) / t * w d + b d) * q d = (v d * (w d * q d) - m * (w d * q d)) / t + b d * q d := fun d => by
    field_simp
  simp only [h, Finset.sum_add_distrib, Finset.sum_sub_distrib, ← Finset.sum_div, ← Finset.mul_sum]
  rw [hm]
  congr 2
  ring

section Score
variable {N e : ℝ} (hN : N = n) (h0 : 0 < N) (he : 0 < e) (v w b x q : Fin n → EReal) (hw : ∀ d, IsReal (w d))
  (hx : ∀ d, IsReal (x d)) (hq : ∀ d, q d = x d * w d + b d)

include hw hx in
/-- A real number scaled and shifted by an infinite value is that value. -/
theorem affine_inf {d : Fin n} (h : b d = ⊤ ∨ b d = ⊥) : x d * w d + b d = b d := by
  obtain ⟨r, hr⟩ := hx d
  obtain ⟨s, hs⟩ := hw d
  rw [hr, hs, ← EReal.coe_mul]
  rcases h with h | h <;> rw [h]
  · exact EReal.add_top_of_ne_bot (EReal.coe_ne_bot _)
  · exact EReal.add_bot _

include hw hx in
/-- A real number scaled and shifted by a real number is real. -/
theorem affine_real {d : Fin n} (h : IsReal (b d)) : IsReal (x d * w d + b d) := by
  obtain ⟨r, hr⟩ := hx d
  obtain ⟨s, hs⟩ := hw d
  obtain ⟨t, ht⟩ := h
  exact ⟨r * s + t, by rw [hr, hs, ht, ← EReal.coe_mul, ← EReal.coe_add]⟩

include hN h0 he hw hx hq in
/-- With every shift finite the two forms of the score agree, whatever the key row. -/
theorem score_eq (hb : ∀ d, IsReal (b d)) :
    factoredScore ((1 / N : ℝ) : EReal) (e : EReal) v (fun d => w d * q d) (∑ d, w d * q d) (∑ d, b d * q d)
      = plainScore (N : EReal) (e : EReal) v w b q := by
  by_cases hv : ∀ d, IsReal (v d)
  · have hqr : ∀ d, IsReal (q d) := fun d => by rw [hq d]; exact affine_real w b x hw hx (hb d)
    obtain ⟨v, rfl⟩ := exists_real_row hv
    obtain ⟨w, rfl⟩ := exists_real_row hw
    obtain ⟨b, rfl⟩ := exists_real_row hb
    obtain ⟨q, rfl⟩ := exists_real_row hqr
    exact score_real v w b q hN h0 he
  · push Not at hv
    obtain ⟨i, hi⟩ := hv
    have hi' := (isReal_or _).resolve_left hi
    rw [factoredScore_inf h0 hi' (by positivity), plainScore]
    refine Finset.sum_congr rfl fun d _ => ?_
    rw [lnorm_inf h0 hi', zero_mul, zero_add]

include hw hx hq in
/-- With an infinite shift the shift's share of the score is `⊤`, -/
theorem share_inf {i : Fin n} (hi : b i = ⊤ ∨ b i = ⊥) : ∑ d, b d * q d = ⊤ := by
  refine sum_eq_top _ _ (fun d _ => ?_) (Finset.mem_univ i) ?_
  · rcases isReal_or (b d) with h | h
    · obtain ⟨t, ht⟩ := h
      obtain ⟨s, hs⟩ := affine_real w b x hw hx ⟨t, ht⟩
      rw [hq d, hs, ht, ← EReal.coe_mul]; exact EReal.coe_ne_bot _
    · rw [hq d, affine_inf w b x hw hx h, sq_of_inf h]; exact top_ne_bot
  · rw [hq i, affine_inf w b x hw hx hi]; exact sq_of_inf hi

include hw hx hq in
/-- so the factored score is infinite, -/
theorem factoredScore_shift_inf {i : Fin n} (hi : b i = ⊤ ∨ b i = ⊥) (I e : EReal) (p : Fin n → EReal) (s0 : EReal) :
    factoredScore I e v p s0 (∑ d, b d * q d) = ⊤ ∨ factoredScore I e v p s0 (∑ d, b d * q d) = ⊥ := by
  rw [share_inf w b x q hw hx hq hi, factoredScore]
  generalize Ideal.div _ _ = y
  by_cases hy : y = ⊥
  · rw [hy, EReal.bot_add]; exact .inr rfl
  · rw [EReal.add_top_of_ne_bot hy]; exact .inl rfl

include h0 he hw hx hq in
/-- and the plain score is `⊤`. -/
theorem plainScore_shift_inf {i : Fin n} (hi : b i = ⊤ ∨ b i = ⊥) : plainScore (N : EReal) (e : EReal) v w b q = ⊤ := by
  have hl : ∀ d, IsReal (lnorm (N : EReal) (e : EReal) v d) := lnorm_isReal v h0 he
  refine sum_eq_top _ _ (fun d _ => ?_) (Finset.mem_univ i) ?_
  · rcases isReal_or (b d) with h | h
    · obtain ⟨t, ht⟩ := affine_real w b (lnorm (N : EReal) (e : EReal) v) hw hl h
      obtain ⟨s, hs⟩ := affine_real w b x hw hx h
      rw [hq d, hs, ht, ← EReal.coe_mul]; exact EReal.coe_ne_bot _
    · rw [hq d, affine_inf w b x hw hx h, affine_inf w b _ hw hl h, sq_of_inf h]; exact top_ne_bot
  · rw [hq i, affine_inf w b x hw hx hi, affine_inf w b _ hw hl hi]; exact sq_of_inf hi

end Score

/-- The standardised scores of `k` key rows agree in the two forms, for a scale of real numbers and a query that is a
    normalised row under the same scale and shift. -/
theorem zscore_eq {k : ℕ} {N e M g : ℝ} (hN : N = n) (h0 : 0 < N) (he : 0 < e) (hM : 0 < M) (v : Fin k → Fin n → EReal)
    (w b x q : Fin n → EReal) (hw : ∀ d, IsReal (w d)) (hx : ∀ d, IsReal (x d)) (hq : ∀ d, q d = x d * w d + b d) (j : Fin k) :
    zscore (M : EReal) (g : EReal)
        (fun j => factoredScore ((1 / N : ℝ) : EReal) (e : EReal) (v j) (fun d => w d * q d) (∑ d, w d * q d) (∑ d, b d * q d)) j
      = zscore (M : EReal) (g : EReal) (fun j => plainScore (N : EReal) (e : EReal) (v j) w b q) j := by
  by_cases hb : ∀ d, IsReal (b d)
  · rw [show (fun j => factoredScore ((1 / N : ℝ) : EReal) (e : EReal) (v j) (fun d => w d * q d) (∑ d, w d * q d) (∑ d, b d * q d))
      = (fun j => plainScore (N : EReal) (e : EReal) (v j) w b q) from
      funext fun j => score_eq hN h0 he (v j) w b x q hw hx hq hb]
  · push Not at hb
    obtain ⟨i, hi⟩ := hb
    have hi' := (isReal_or _).resolve_left hi
    rw [zscore_inf hM (i := j) (factoredScore_shift_inf (v j) w b x q hw hx hq hi' _ _ _ _),
      zscore_inf hM (i := j) (.inl (plainScore_shift_inf h0 he (v j) w b x q hw hx hq hi'))]

/-! ## The constants -/

/-- The row length 2048. -/
theorem ofBits_2048 : Ideal.ofBits .f32 0x45000000#32 = ((2048 : ℝ) : EReal) := by
  simp [Ideal.ofBits, Ideal.ieee, ← EReal.coe_mul]; norm_num

/-- Its reciprocal. -/
theorem ofBits_inv_2048 : Ideal.ofBits .f32 0x3A000000#32 = ((1 / 2048 : ℝ) : EReal) := by
  simp [Ideal.ofBits, Ideal.ieee, ← EReal.coe_mul]; norm_num

/-- The number of tokens, 576. -/
theorem ofBits_576 : Ideal.ofBits .f32 0x44100000#32 = ((576 : ℝ) : EReal) := by
  simp [Ideal.ofBits, Ideal.ieee, ← EReal.coe_mul]; norm_num

/-- The layer norm's offset is a positive real number. -/
theorem ofBits_eps : ∃ e : ℝ, 0 < e ∧ Ideal.ofBits .f32 0x3727C5AC#32 = (e : EReal) := by
  refine ⟨_, ?_, by simp [Ideal.ofBits, Ideal.ieee]; rfl⟩
  norm_num

/-- The standardisation's offset is a real number. -/
theorem ofBits_tiny : ∃ e : ℝ, Ideal.ofBits .f32 0x358637BD#32 = (e : EReal) :=
  ⟨_, by simp [Ideal.ofBits, Ideal.ieee]; rfl⟩

end Cert.Score

end
-- ==== Proof.Model.lean ====
/-
  What the scorer computes, as functions of rows of extended reals: the text features normalised, the pooled layers, the gated
  recurrence over the layers, the query, the keys and the standardised scores in the reference's form and in the kernel's.
-/
module

public import proofs.«01_k».proof.Proof.Algebra

@[expose] public section

noncomputable section

namespace Cert.Score

open Idealize.ShloMosaic

/-- A row of `n` extended reals. -/
abbrev Row (n : ℕ) := Fin n → EReal
/-- A matrix of `n` rows of length `k`. -/
abbrev Mat (n k : ℕ) := Fin n → Fin k → EReal

/-- The row length. This constant and the five after it are as the programs write them. -/
abbrev len : EReal := Ideal.ofBits .f32 0x45000000#32
/-- The number of tokens of a layer. -/
abbrev tokens : EReal := Ideal.ofBits .f32 0x44100000#32
/-- The number of text tokens. -/
abbrev textTokens : EReal := Ideal.ofBits .f32 0x43000000#32
/-- The reciprocal of the row length. -/
abbrev invLen : EReal := Ideal.ofBits .f32 0x3A000000#32
/-- The layer norm's offset. -/
abbrev eps : EReal := Ideal.ofBits .f32 0x3727C5AC#32
/-- The offset of the scores' deviation. -/
abbrev tiny : EReal := Ideal.ofBits .f32 0x358637BD#32

/-- The mean of the text features over their tokens, normalised. -/
def textGlobal (T : Mat 128 2048) : Row 2048 := lnorm len eps fun d => Ideal.div (∑ i, T i d) textTokens

/-- The layers' features, each averaged over its tokens. -/
def pooled (X : Fin 24 → Mat 576 2048) (l : Fin 24) : Row 2048 := fun d => Ideal.div (∑ j, X l j d) tokens

/-- The products of a row with the rows of a matrix. -/
def mulRows {n k : ℕ} (s : Row k) (W : Mat n k) : Row n := fun d => ∑ r, s r * W d r

/-- The recurrence's weights and biases: the hidden layer, the candidate, the input gate and the forget gate. -/
structure Weights where
  W1 : Mat 512 6144
  b1 : Row 512
  Wc : Mat 2048 512
  bc : Row 2048
  Wi : Mat 2048 512
  bi : Row 2048
  Wf : Mat 2048 512
  bf : Row 2048

/-- The hidden layer's input: the state through the logistic function, the layer's features, the text's, side by side. -/
def combined (c y tg : Row 2048) : Row 6144 := fun x =>
  if h : x.val < 2048 then Ideal.logistic (c ⟨x.val, h⟩)
  else if h : x.val - 2048 < 2048 then y ⟨x.val - 2048, h⟩
  else tg ⟨x.val - 2048 - 2048, by have := x.isLt; omega⟩

/-- The hidden layer. -/
def hiddenLayer (P : Weights) (c y tg : Row 2048) : Row 512 := fun r => max (mulRows (combined c y tg) P.W1 r + P.b1 r) 0

/-- One step of the recurrence: from the state `c` and the layer's features `y`. -/
def next (P : Weights) (tg y c : Row 2048) : Row 2048 := fun d =>
  Ideal.logistic (mulRows (hiddenLayer P c y tg) P.Wf d + P.bf d) * c d
    + Ideal.logistic (mulRows (hiddenLayer P c y tg) P.Wi d + P.bi d) * Ideal.tanh (mulRows (hiddenLayer P c y tg) P.Wc d + P.bc d)

/-- The recurrence's state before layer `k`, from zero. -/
def state (P : Weights) (tg : Row 2048) (y : Fin 24 → Row 2048) : ℕ → Row 2048
  | 0 => fun _ => 0
  | k + 1 => next P tg (y (Fin.ofNat 24 k)) (state P tg y k)

/-- The query: the state projected, normalised, scaled and shifted. -/
def query (c : Row 2048) (Wq : Mat 2048 2048) (w b : Row 2048) : Row 2048 := fun d => lnorm len eps (mulRows c Wq) d * w d + b d

/-- A token's standardised score in the reference's form: the keys normalised, scaled and shifted, their products with the query
    summed, and the layer's scores standardised. -/
def plainZ (X : Mat 576 2048) (Wk : Mat 2048 2048) (w b q : Row 2048) : Row 576 :=
  zscore tokens tiny fun j => plainScore len eps (mulRows (X j) Wk) w b q

/-- The same in the kernel's form: from the keys' products with `w * q`, their sums and their sums of squares. -/
def factoredZ (X : Mat 576 2048) (Wk : Mat 2048 2048) (p : Row 2048) (s0 s1 : EReal) : Row 576 :=
  zscore tokens tiny fun j => factoredScore invLen eps (mulRows (X j) Wk) p s0 s1

/-- The two forms of the standardised scores agree when the scale is finite. -/
theorem factoredZ_eq (X : Mat 576 2048) (Wk Wq : Mat 2048 2048) (c w b : Row 2048) (hw : ∀ d, IsReal (w d)) :
    factoredZ X Wk (fun d => w d * query c Wq w b d) (∑ d, w d * query c Wq w b d) (∑ d, b d * query c Wq w b d)
      = plainZ X Wk w b (query c Wq w b) := by
  obtain ⟨e, he, hee⟩ := ofBits_eps
  obtain ⟨g, hg⟩ := ofBits_tiny
  funext j
  have hlen : len = ((2048 : ℝ) : EReal) := ofBits_2048
  have hx : ∀ d, IsReal (lnorm len eps (mulRows c Wq) d) := fun d => by
    rw [hlen, show eps = (e : EReal) from hee]
    exact lnorm_isReal _ (by norm_num) he d
  have := zscore_eq (k := 576) (N := 2048) (e := e) (M := 576) (g := g) (by norm_num) (by norm_num) he (by norm_num)
    (fun j => mulRows (X j) Wk) w b (lnorm len eps (mulRows c Wq)) (query c Wq w b) hw hx (fun _ => rfl) j
  rw [factoredZ, plainZ, hlen, show eps = (e : EReal) from hee, show tiny = (g : EReal) from hg,
    show tokens = ((576 : ℝ) : EReal) from ofBits_576, show invLen = ((1 / 2048 : ℝ) : EReal) from ofBits_inv_2048]
  exact this

end Cert.Score

end
-- ==== Proof.Result.lean ====
/-
  The scorer's seventeen arguments together, and what is to be computed from them: the query, the standardised scores of all
  tokens, and the scores laid out in one line.
-/
module

public import proofs.«01_k».proof.Proof.Model
public import Idealize.ShloMosaic.Lib.Pointwise

@[expose] public section

noncomputable section

namespace Cert.Score

open Idealize.ShloMosaic

/-- The arguments, in the order in which the scorer takes them. -/
structure Args where
  text : FVec Ideal ⟨2, ![128, 2048]⟩ .f32
  X : FVec Ideal ⟨3, ![24, 576, 2048]⟩ .f32
  W1 : FVec Ideal ⟨2, ![512, 6144]⟩ .f32
  W1b : FVec Ideal ⟨1, ![512]⟩ .f32
  Wc : FVec Ideal ⟨2, ![2048, 512]⟩ .f32
  Wcb : FVec Ideal ⟨1, ![2048]⟩ .f32
  Wi : FVec Ideal ⟨2, ![2048, 512]⟩ .f32
  Wib : FVec Ideal ⟨1, ![2048]⟩ .f32
  Wf : FVec Ideal ⟨2, ![2048, 512]⟩ .f32
  Wfb : FVec Ideal ⟨1, ![2048]⟩ .f32
  bc : FVec Ideal ⟨1, ![2048]⟩ .f32
  bi : FVec Ideal ⟨1, ![2048]⟩ .f32
  bf : FVec Ideal ⟨1, ![2048]⟩ .f32
  Wq : FVec Ideal ⟨2, ![2048, 2048]⟩ .f32
  Wk : FVec Ideal ⟨2, ![2048, 2048]⟩ .f32
  w : FVec Ideal ⟨1, ![2048]⟩ .f32
  b : FVec Ideal ⟨1, ![2048]⟩ .f32

namespace Args

variable (A : Args)

/-- The recurrence's weights, its two biases of each gate added. -/
def weights : Weights :=
  ⟨fun r d => A.W1 (ix2 r d), fun r => A.W1b (ix1 r), fun r d => A.Wc (ix2 r d), fun d => A.Wcb (ix1 d) + A.bc (ix1 d),
    fun r d => A.Wi (ix2 r d), fun d => A.Wib (ix1 d) + A.bi (ix1 d), fun r d => A.Wf (ix2 r d), fun d => A.Wfb (ix1 d) + A.bf (ix1 d)⟩

/-- The text's normalised features. -/
def tg : Row 2048 := textGlobal fun i d => A.text (ix2 i d)

/-- The tokens of each layer. -/
def tokensOf (l : Fin 24) : Mat 576 2048 := fun j d => A.X (ix3 l j d)

/-- The recurrence's state after k layers. -/
def stateAfter (k : ℕ) : Row 2048 := state A.weights A.tg (pooled A.tokensOf) k

/-- The scale and the shift of the two layer norms. -/
def scale : Row 2048 := fun d => A.w (ix1 d)
/-- The layer norm's shift. -/
def shift : Row 2048 := fun d => A.b (ix1 d)

/-- The query, made from the state after all layers but the last. -/
def q : Row 2048 := query (A.stateAfter 23) (fun d e => A.Wq (ix2 d e)) A.scale A.shift

/-- The standardised scores of a layer's tokens, in the reference's form. -/
def z (l : Fin 24) : Row 576 := plainZ (A.tokensOf l) (fun d e => A.Wk (ix2 d e)) A.scale A.shift A.q

/-- The same in the kernel's form. -/
def factored (l : Fin 24) : Row 576 :=
  factoredZ (A.tokensOf l) (fun d e => A.Wk (ix2 d e)) (fun d => A.scale d * A.q d) (∑ d, A.scale d * A.q d) (∑ d, A.shift d * A.q d)

/-- The two forms agree when the scale is finite. -/
theorem factored_eq (hw : ∀ d, IsReal (A.scale d)) (l : Fin 24) : A.factored l = A.z l := factoredZ_eq _ _ _ _ _ _ hw

end Args

/-- A layer-by-token table laid out in one line, layer after layer. -/
def inLine (f : Fin 24 → Row 576) : FVec Ideal ⟨1, ![13824]⟩ .f32 := fun i =>
  f ⟨(i 0).val / 576, Nat.div_lt_of_lt_mul (i 0).isLt⟩ ⟨(i 0).val % 576, Nat.mod_lt _ (by norm_num)⟩

end Cert.Score

end
-- ==== Proof.KernelBlocks.lean ====
/-
  What one block of each of the kernel's calls computes, read at an index.
-/
module

public import proofs.«01_k».proof.Proof.Model
public import proofs.«01_k».proof.Proof.Gen.KernelIdeal.Skeleton
public import Idealize.ShloMosaic.Lib.Pointwise

@[expose] public section

noncomputable section

namespace Cert.KernelIdeal.Blocks

open Idealize.ShloMosaic Cert.Score Cert.KernelIdeal Cert.KernelIdeal.Gen

/-- The single row of a one-row array. -/
abbrev row {n : ℕ} (v : FVec Ideal ⟨2, ![1, n]⟩ .f32) : Row n := fun d => v (ix2 0 d)
/-- The rows of a matrix. -/
abbrev mat {n k : ℕ} (v : FVec Ideal ⟨2, ![n, k]⟩ .f32) : Mat n k := fun r d => v (ix2 r d)
/-- The rows of a one-block array. -/
abbrev block {n k : ℕ} (v : FVec Ideal ⟨3, ![1, n, k]⟩ .f32) : Mat n k := fun r d => v (ix3 0 r d)

/-! ## The pooling call -/

/-- A block of the pooling call is the layer's mean over its tokens. -/
theorem pool_at (x : Vec Ideal S1x576x2048 .f32) (d : Fin 2048) :
    k0_pay1 (F := Ideal) x (ix3 0 0 d) = Ideal.div (∑ j, block x j d) tokens := by
  pointwise [k0_pay1]

/-! ## The recurrence call -/

/-- The text's features, averaged and normalised. -/
theorem text_at (v : Vec Ideal S128x2048 .f32) (d : Fin 2048) : k1_pay6 (F := Ideal) v (ix2 0 d) = textGlobal (mat v) d := by
  pointwise [k1_pay6]
  rfl

/-- The hidden layer. -/
theorem hidden_at (tg c y : FVec Ideal S1x2048 .f32) (W : Vec Ideal S512x6144 .f32) (b : Vec Ideal S1x512 .f32) (P : Weights)
    (hW : P.W1 = mat W) (hb : P.b1 = row b) (r : Fin 512) :
    k1_pay2 (F := Ideal) tg c y W b (ix2 0 r) = hiddenLayer P (row c) (row y) (row tg) r := by
  pointwise [k1_pay2]
  rw [hiddenLayer, hW, hb]
  rfl

/-- One step of the recurrence. -/
theorem step_at (tg c y : FVec Ideal S1x2048 .f32) (W1 : Vec Ideal S512x6144 .f32) (b1 : Vec Ideal S1x512 .f32)
    (Wc : Vec Ideal S2048x512 .f32) (bc : Vec Ideal S1x2048 .f32) (Wi : Vec Ideal S2048x512 .f32) (bi : Vec Ideal S1x2048 .f32)
    (Wf : Vec Ideal S2048x512 .f32) (bf : Vec Ideal S1x2048 .f32) (d : Fin 2048) :
    k1_pay8 (F := Ideal) c (k1_pay3 tg c y W1 b1 Wc bc) (k1_pay4 tg c y W1 b1 Wi bi) (k1_pay5 tg c y W1 b1 Wf bf) (ix2 0 d)
      = next ⟨mat W1, row b1, mat Wc, row bc, mat Wi, row bi, mat Wf, row bf⟩ (row tg) (row y) (row c) d := by
  have h := fun r => hidden_at tg c y W1 b1 ⟨mat W1, row b1, mat Wc, row bc, mat Wi, row bi, mat Wf, row bf⟩ rfl rfl r
  pointwise [k1_pay8, k1_pay3, k1_pay4, k1_pay5]
  simp only [h]
  rfl

/-- The recurrence starts from zero. -/
theorem start_at (d : Fin 2048) : k1_pay7 (F := Ideal) (ix2 0 d) = 0 := by
  pointwise [k1_pay7]

/-- The query. -/
theorem query_at (c : FVec Ideal S1x2048 .f32) (Wq : Vec Ideal S2048x2048 .f32) (w b : Vec Ideal S1x2048 .f32) (d : Fin 2048) :
    k1_pay1 (F := Ideal) (k1_pay9 c Wq) (k1_pay10 c Wq) (k1_pay11 c Wq) (Scalar.ofBits .f32 0x45000000#32) w b (ix2 0 d)
      = query (row c) (mat Wq) (row w) (row b) d := by
  pointwise [k1_pay1, k1_pay9, k1_pay10, k1_pay11]
  rfl

/-! ## The scoring call -/

/-- A token's score in the factored form. -/
theorem score_at (x : Vec Ideal S1x576x2048 .f32) (Wk : Vec Ideal S2048x2048 .f32) (p : Vec Ideal S2048x1 .f32) (s0 s1 : EReal)
    (j : Fin 576) : k2_pay2 (F := Ideal) x Wk p s0 s1 (ix2 0 j)
      = factoredScore invLen eps (mulRows (block x j) (mat Wk)) (fun d => p (ix2 d 0)) s0 s1 := by
  pointwise [k2_pay2]
  have h : ∀ d, ∑ k, Wk (ix2 d k) * x (ix3 0 j k) = mulRows (block x j) (mat Wk) d :=
    fun d => Finset.sum_congr rfl fun k _ => mul_comm _ _
  simp only [h]
  rfl

/-- The mean of a block's scores. -/
theorem mean_at (x : Vec Ideal S1x576x2048 .f32) (Wk : Vec Ideal S2048x2048 .f32) (p : Vec Ideal S2048x1 .f32) (s0 s1 : EReal) :
    k2_pay3 (F := Ideal) x Wk p s0 s1 = mean tokens (row (k2_pay2 (F := Ideal) x Wk p s0 s1)) := by
  pointwise [k2_pay3]
  rw [Fin.sum_univ_one]
  rfl

/-- A block of the scoring call is the layer's standardised scores. -/
theorem zscore_at (x : Vec Ideal S1x576x2048 .f32) (Wk : Vec Ideal S2048x2048 .f32) (p : Vec Ideal S2048x1 .f32) (s0 s1 : EReal)
    (j : Fin 576) :
    k2_pay1 (F := Ideal) (k2_pay2 x Wk p s0 s1) (k2_pay3 x Wk p s0 s1) (k2_pay4 x Wk p s0 s1) (ix3 0 0 j)
      = factoredZ (block x) (mat Wk) (fun d => p (ix2 d 0)) s0 s1 j := by
  have hm := mean_at x Wk p s0 s1
  have hs : row (k2_pay2 (F := Ideal) x Wk p s0 s1)
      = fun j => factoredScore invLen eps (mulRows (block x j) (mat Wk)) (fun d => p (ix2 d 0)) s0 s1 := funext (score_at x Wk p s0 s1)
  rw [factoredZ, ← hs]
  pointwise [k2_pay1, k2_pay4]
  rw [Fin.sum_univ_one, hm]
  rfl

end Cert.KernelIdeal.Blocks

end
-- ==== Proof.KernelLoop.lean ====
/-
  The recurrence call's loop: after k trips the carried row is the recurrence's state after k layers.
-/
module

public import proofs.«01_k».proof.Proof.KernelBlocks
public import proofs.«01_k».proof.Proof.Gen.KernelIdeal.Frame
public import Idealize.ShloMosaic.Lib.Pipeline.ValueKit

@[expose] public section

set_option maxRecDepth 16384

noncomputable section

namespace Cert.KernelIdeal.Arrays

open Idealize.ShloMosaic Cert.Score Cert.KernelIdeal Cert.KernelIdeal.Gen Cert.KernelIdeal.Blocks

-- the call's operands in memory, and what they hold
variable (c : Dev nD)
  (a0 : Memref sig .tc .vmem S128x2048 .f32) (h0 : a0.IsWhole) (a1 : Memref sig .tc .vmem S24x2048 .f32) (h1 : a1.IsWhole)
  (a2 : Memref sig .tc .vmem S512x6144 .f32) (h2 : a2.IsWhole) (a3 : Memref sig .tc .vmem S1x512 .f32) (h3 : a3.IsWhole) (a4
  : Memref sig .tc .vmem S2048x512 .f32) (h4 : a4.IsWhole) (a5 : Memref sig .tc .vmem S1x2048 .f32) (h5 : a5.IsWhole) (a6 :
  Memref sig .tc .vmem S2048x512 .f32) (h6 : a6.IsWhole) (a7 : Memref sig .tc .vmem S1x2048 .f32) (h7 : a7.IsWhole) (a8 :
  Memref sig .tc .vmem S2048x512 .f32) (h8 : a8.IsWhole) (a9 : Memref sig .tc .vmem S1x2048 .f32) (h9 : a9.IsWhole) (a10 :
  Memref sig .tc .vmem S2048x2048 .f32) (h10 : a10.IsWhole) (a11 : Memref sig .tc .vmem S1x2048 .f32) (h11 : a11.IsWhole)
  (a12 : Memref sig .tc .vmem S1x2048 .f32) (h12 : a12.IsWhole) (a13 : Memref sig .tc .vmem S1x2048 .f32) (h13 : a13.IsWhole)
  (x0 : Vec Ideal S128x2048 .f32) (x1 : Vec Ideal S24x2048 .f32) (x2 : Vec Ideal S512x6144 .f32) (x3 : Vec Ideal S1x512 .f32)
  (x4 : Vec Ideal S2048x512 .f32) (x5 : Vec Ideal S1x2048 .f32) (x6 : Vec Ideal S2048x512 .f32) (x7 : Vec Ideal S1x2048 .f32)
  (x8 : Vec Ideal S2048x512 .f32) (x9 : Vec Ideal S1x2048 .f32)

/-- The row carried into trip k, the operands in memory holding the given arrays. -/
abbrev carried (k : ℕ) : FVec Ideal S1x2048 .f32 :=
  st_k1_t1 (F := Ideal) Variants.none c none a0 h0 a1 h1 a2 h2 a3 h3 a4 h4 a5 h5 a6 h6 a7 h7 a8 h8 a9 h9 a10 h10 a11 h11 a12
    h12 a13 h13 x0 (h1.unread x1) (h2.unread x2) (h3.unread x3) (h4.unread x4) (h5.unread x5) (h6.unread x6) (h7.unread x7)
    (h8.unread x8) (h9.unread x9) k1_pay7 k

/-- The weights of the recurrence among the operands. -/
abbrev weights : Weights := ⟨mat x2, row x3, mat x4, row x5, mat x6, row x7, mat x8, row x9⟩

/-- The loop makes a trip for every layer but the last. -/
theorem trips_eq : Scf.trips (0#32) (Scalar.addi 0#32 23#32) 1#32 = 23 := by decide

/-- The row of pooled features that trip k loads. -/
theorem layer_row (x1 : Vec Ideal S24x2048 .f32) (k : Fin (Scf.trips (0#32) (Scalar.addi 0#32 23#32) 1#32)) (e : Fin 2048) :
    ∀ h, row (View.ld x1 (Rect.unit (k1_off1 k) ![1, 2048] h)) e = x1 (ix2 (Fin.ofNat 24 k) e) := by
  intro h
  have hk : k1_off1 k = ![k.val, 0] := (by decide +kernel : ∀ k, k1_off1 k = ![k.val, 0]) k
  have hl : k.val < 23 := lt_of_lt_of_eq k.isLt trips_eq
  refine congrArg x1 ?_
  refine Shape.idx_ext₂ ?_ ?_
  · refine (Rect.idx_unit_val ..).trans ?_
    refine (congrArg (· + 0) (congrFun hk 0)).trans ?_
    exact (Nat.mod_eq_of_lt (by omega : k.val < 24)).symm
  · refine (Rect.idx_unit_val ..).trans ?_
    exact (congrArg (· + e.val) (congrFun hk 1)).trans (Nat.zero_add _)

/-- One trip takes the carried row to the recurrence's next state. -/
theorem trip_at (k : Fin (Scf.trips (0#32) (Scalar.addi 0#32 23#32) 1#32)) (acc : FVec Ideal S1x2048 .f32) (d : Fin 2048) :
    tripR_k1_t1 (F := Ideal) Variants.none c none a0 h0 a1 h1 a2 h2 a3 h3 a4 h4 a5 h5 a6 h6 a7 h7 a8 h8 a9 h9 a10 h10 a11 h11 a12 h12 a13 h13 x0
      (h1.unread x1) (h2.unread x2) (h3.unread x3) (h4.unread x4) (h5.unread x5) (h6.unread x6) (h7.unread x7) (h8.unread x8)
      (h9.unread x9) k acc (ix2 0 d)
      = next (weights x2 x3 x4 x5 x6 x7 x8 x9) (textGlobal (mat x0)) (fun e => x1 (ix2 (Fin.ofNat 24 k) e)) (row acc) d := by
  unfold tripR_k1_t1 trip_k1_t1
  dsimp only
  frame_out
  refine (step_at _ _ _ _ _ _ _ _ _ _ _ d).trans ?_
  rw [show row (k1_pay6 (F := Ideal) x0) = textGlobal (mat x0) from funext (text_at x0)]
  refine congrArg (fun y => next _ _ y _ d) (funext fun e => ?_)
  exact layer_row x1 k e _

/-- After k trips the carried row is the recurrence's state after k layers. -/
theorem carried_eq (k : ℕ) (hk : k ≤ 23) :
    row (carried c a0 h0 a1 h1 a2 h2 a3 h3 a4 h4 a5 h5 a6 h6 a7 h7 a8 h8 a9 h9 a10 h10 a11 h11 a12 h12 a13 h13 x0 x1 x2 x3 x4 x5 x6 x7 x8 x9 k)
      = state (weights x2 x3 x4 x5 x6 x7 x8 x9) (textGlobal (mat x0)) (fun l => fun e => x1 (ix2 l e)) k := by
  induction k with
  | zero => exact funext start_at
  | succ k ih =>
    have hk' : k < Scf.trips (0#32) (Scalar.addi 0#32 23#32) 1#32 := by rw [trips_eq]; omega
    funext d
    refine (congrFun (st_k1_t1_succ (F := Ideal) (k := ⟨k, hk'⟩) (init := k1_pay7) ..) (ix2 0 d)).trans ?_
    refine (trip_at c a0 h0 a1 h1 a2 h2 a3 h3 a4 h4 a5 h5 a6 h6 a7 h7 a8 h8 a9 h9 a10 h10 a11 h11 a12 h12 a13 h13 x0 x1 x2 x3 x4 x5 x6 x7 x8 x9 ⟨k, hk'⟩ _ d).trans ?_
    exact congrArg (fun s => next _ _ _ s d) (ih (by omega))

end Cert.KernelIdeal.Arrays
-- ==== Proof.KernelQuery.lean ====
/-
  What the recurrence call's array holds when the call ends: the query.
-/
module

public import proofs.«01_k».proof.Proof.KernelLoop
public import Idealize.ShloMosaic.Lib.Pipeline.ReadBack

@[expose] public section

set_option maxRecDepth 16384

noncomputable section

namespace Cert.KernelIdeal.Arrays

open Idealize.ShloMosaic Cert.Score Cert.KernelIdeal Cert.KernelIdeal.Gen Cert.KernelIdeal.Blocks

variable (V : (c : Dev nD) → (b : Ref sig .tc) → Buf (Elt Ideal) ((c.tc : Thread nD τ).loc b)) (c : Dev nD)

/-- The call has one point, at which every operand's block begins at the array's beginning. -/
theorem query_index : ∀ t : Fin cfg1.grid.N, win1_0.index t = ![0, 0] ∧ win1_1.index t = ![0, 0] ∧ win1_2.index t = ![0, 0] ∧ win1_3.index t = ![0, 0] ∧ win1_4.index t =
  ![0, 0] ∧ win1_5.index t = ![0, 0] ∧ win1_6.index t = ![0, 0] ∧ win1_7.index t = ![0, 0] ∧ win1_8.index t = ![0, 0] ∧
  win1_9.index t = ![0, 0] ∧ win1_10.index t = ![0, 0] ∧ win1_11.index t = ![0, 0] ∧ win1_12.index t = ![0, 0] ∧
  win1_13.index t = ![0, 0] := by
  decide +kernel

-- thirteen blocks at once
set_option maxHeartbeats 1600000 in
/-- Every operand's block is the whole array. -/
theorem query_blocks (t : Fin cfg1.N) :
    (iblk1 V c 0 t : Vec Ideal S128x2048 .f32) = V c main_arg0
    ∧ (iblk1 V c 1 t : Vec Ideal S24x2048 .f32) = V c main_v1
    ∧ (iblk1 V c 2 t : Vec Ideal S512x6144 .f32) = V c main_arg2
    ∧ (iblk1 V c 3 t : Vec Ideal S1x512 .f32) = V c main_v2
    ∧ (iblk1 V c 4 t : Vec Ideal S2048x512 .f32) = V c main_arg4
    ∧ (iblk1 V c 5 t : Vec Ideal S1x2048 .f32) = V c main_v4
    ∧ (iblk1 V c 6 t : Vec Ideal S2048x512 .f32) = V c main_arg6
    ∧ (iblk1 V c 7 t : Vec Ideal S1x2048 .f32) = V c main_v6
    ∧ (iblk1 V c 8 t : Vec Ideal S2048x512 .f32) = V c main_arg8
    ∧ (iblk1 V c 9 t : Vec Ideal S1x2048 .f32) = V c main_v8
    ∧ (iblk1 V c 10 t : Vec Ideal S2048x2048 .f32) = V c main_arg13
    ∧ (iblk1 V c 11 t : Vec Ideal S1x2048 .f32) = V c main_v9
    ∧ (iblk1 V c 12 t : Vec Ideal S1x2048 .f32) = V c main_v10 := by
  refine ⟨?_, ?_, ?_, ?_, ?_, ?_, ?_, ?_, ?_, ?_, ?_, ?_, ?_⟩
  all_goals
    funext y
    refine congrArg (V c _) ?_
    blk_ext [query_index t]

/-- The recurrence's weights among the arrays. -/
abbrev arrayWeights : Weights := weights (V c main_arg2) (V c main_v2) (V c main_arg4) (V c main_v4) (V c main_arg6) (V c main_v6) (V c main_arg8) (V c
  main_v8)

/-- The query that the call is to leave. -/
abbrev arrayQuery : Row 2048 :=
  query (state (arrayWeights V c) (textGlobal (mat (V c main_arg0))) (fun l e => (V c main_v1 : FVec Ideal S24x2048 .f32) (ix2 l e)) 23)
          (mat (V c main_arg13)) (row (V c main_v9)) (row (V c main_v10))

/-- What the call's body leaves at its point. -/
theorem query_point (t : Fin cfg1.N) (d : Fin 2048) : (outsAt1 (F := Ideal) V c t) (ix2 0 d) = arrayQuery V c d := by
  unfold outsAt1
  frame_out
  simp only [read_unread_whole]
  refine (query_at _ _ _ _ _).trans ?_
  rw [trips_eq, carried_eq (hk := le_rfl)]
  obtain ⟨e0, e1, e2, e3, e4, e5, e6, e7, e8, e9, e10, e11, e12⟩ := query_blocks V c t
  rw [e0, e1, e2, e3, e4, e5, e6, e7, e8, e9, e10, e11, e12]

/-- A point's block spans the array. -/
theorem query_place (t : Fin cfg1.N) (y : S1x2048.Idx) : (y 1 : Fin 2048) = ((cfg1.win 13).blk t).view.emb y 1 := by
  refine Fin.ext ?_
  blk_ext [query_index t]

/-- When the recurrence call ends, its array is the query made from the state after all layers but the last. -/
theorem query_array (d : Fin 2048) :
    ((dat1 (F := Ideal) V c).arrAt 13 cfg1.N : FVec Ideal S1x2048 .f32) (ix2 0 d) = arrayQuery V c d := by
  suffices h : (dat1 (F := Ideal) V c).arrAt 13 cfg1.N = fun i => arrayQuery V c (i 1) by rw [h]; rfl
  refine (dat1 (F := Ideal) V c).arrAt_eq_of_covers 13 _ (by decide +kernel) fun t hf y => ?_
  blk_simp
  rw [after1_13]
  have e : (y : S1x2048.Idx) = ix2 (0 : Fin 1) (y 1 : Fin 2048) := by blk_ext []
  refine (congrArg _ e).trans ((query_point V c t _).trans ?_)
  exact congrArg _ (query_place t y)

end Cert.KernelIdeal.Arrays
-- ==== Proof.KernelPool.lean ====
/-
  What the pooling call's array and the scoring call's array hold when their calls end, entry by entry.
-/
module

public import proofs.«01_k».proof.Proof.KernelBlocks
public import proofs.«01_k».proof.Proof.Gen.KernelIdeal.Frame
public import Idealize.ShloMosaic.Lib.Pipeline.ValueKit

@[expose] public section

set_option maxRecDepth 16384

noncomputable section

namespace Cert.KernelIdeal.Arrays

open Idealize.ShloMosaic Cert.Score Cert.KernelIdeal Cert.KernelIdeal.Gen Cert.KernelIdeal.Blocks

variable (V : (c : Dev nD) → (b : Ref sig .tc) → Buf (Elt Ideal) ((c.tc : Thread nD τ).loc b))

/-- The layers of the array of visual tokens. -/
abbrev layers (X : FVec Ideal ⟨3, ![24, 576, 2048]⟩ .f32) (l : Fin 24) : Mat 576 2048 := fun r d => X (ix3 l r d)

/-- The index maps of the pooling call: at each point both blocks sit at the point's layer. -/
theorem pool_index : ∀ t : Fin cfg0.grid.N, win0_0.index t = ![(cfg0.grid.coords t 0).val, 0, 0] ∧ win0_1.index t = ![(cfg0.grid.coords t 0).val, 0, 0] := by
  decide +kernel

/-- When the pooling call ends, row l of its array is layer l's mean over the tokens. -/
theorem pool_array (c : Dev nD) (l : Fin 24) (d : Fin 2048) :
    ((dat0 (F := Ideal) V c).arrAt 1 cfg0.N : FVec Ideal S24x1x2048 .f32) (ix3 l 0 d) = pooled (layers (V c main_arg1)) l d := by
  suffices h : (dat0 (F := Ideal) V c).arrAt 1 cfg0.N = fun i => pooled (layers (V c main_arg1)) (i 0) (i 2) by rw [h]; rfl
  refine (dat0 (F := Ideal) V c).arrAt_eq_of_covers 1 _ (by decide +kernel) fun t hf y => ?_
  blk_simp
  rw [after0_1]
  frame_out
  have e : (y : S1x1x2048.Idx) = ix3 (0 : Fin 1) (0 : Fin 1) (y 2 : Fin 2048) := by blk_ext []
  refine (congrArg (k0_pay1 (iblk0 V c 0 t)) e).trans ((pool_at _ _).trans ?_)
  refine congrArg (fun s => Ideal.div s _) (Finset.sum_congr rfl fun j _ => ?_)
  refine (show _ = (V c main_arg1 : FVec Ideal S24x576x2048 .f32) (((cfg0.win 0).blk t).view.emb (ix3 0 j (y 2 : Fin 2048))) from rfl).trans ?_
  refine congrArg (V c main_arg1 : FVec Ideal S24x576x2048 .f32) ?_
  blk_ext [pool_index t]

end Cert.KernelIdeal.Arrays
-- ==== Proof.KernelScore.lean ====
/-
  What the scoring call's array holds when the call ends: entry (l, j) is token j's z-score within layer l.
-/
module

public import proofs.«01_k».proof.Proof.KernelPool

@[expose] public section

set_option maxRecDepth 16384

noncomputable section

namespace Cert.KernelIdeal.Arrays

open Idealize.ShloMosaic Cert.Score Cert.KernelIdeal Cert.KernelIdeal.Gen Cert.KernelIdeal.Blocks

variable (V : (c : Dev nD) → (b : Ref sig .tc) → Buf (Elt Ideal) ((c.tc : Thread nD τ).loc b))

/-- The index maps of the scoring call: tokens and scores sit at the point's layer, the other operands are whole. -/
theorem score_index : ∀ t : Fin cfg2.grid.N, win2_0.index t = ![(cfg2.grid.coords t 0).val, 0, 0] ∧ win2_1.index t = ![0, 0]
    ∧ win2_2.index t = ![0, 0] ∧ win2_3.index t = ![0] ∧ win2_4.index t = ![(cfg2.grid.coords t 0).val, 0, 0] := by
  decide +kernel

/-- At each point the tokens' block is the layer that the point's scores belong to. -/
theorem score_tokens (c : Dev nD) (t : Fin cfg2.N) (y : S1x1x576.Idx) :
    block (iblk2 V c 0 t) = layers (V c main_arg1) (((cfg2.win 4).blk t).view.emb y 0) := by
  funext j d
  refine (show _ = (V c main_arg1 : FVec Ideal S24x576x2048 .f32) (((cfg2.win 0).blk t).view.emb (ix3 0 j d)) from rfl).trans ?_
  refine congrArg (V c main_arg1 : FVec Ideal S24x576x2048 .f32) ?_
  blk_ext [score_index t]

/-- At each point the key matrix's block is the whole matrix. -/
theorem score_keys (c : Dev nD) (t : Fin cfg2.N) : mat (iblk2 V c 1 t) = mat (V c main_arg14) := by
  funext d e
  refine (show _ = (V c main_arg14 : FVec Ideal S2048x2048 .f32) (((cfg2.win 1).blk t).view.emb (ix2 d e)) from rfl).trans ?_
  refine congrArg (V c main_arg14 : FVec Ideal S2048x2048 .f32) ?_
  blk_ext [score_index t]

/-- At each point the scaled query's block is the whole column. -/
theorem score_column (c : Dev nD) (t : Fin cfg2.N) (d : Fin 2048) :
    (iblk2 V c 2 t : Vec Ideal S2048x1 .f32) (ix2 d 0) = (V c main_v22 : FVec Ideal S2048x1 .f32) (ix2 d 0) := by
  refine (show _ = (V c main_v22 : FVec Ideal S2048x1 .f32) (((cfg2.win 2).blk t).view.emb (ix2 d 0)) from rfl).trans ?_
  refine congrArg (V c main_v22 : FVec Ideal S2048x1 .f32) ?_
  blk_ext [score_index t]

/-- The first of the two scalars. -/
theorem score_scalar0 (c : Dev nD) (t : Fin cfg2.N) :
    ∀ h, View.ld (iblk2 V c 3 t : Vec Ideal S2 .f32) (Rect.unit ![0] ![1] inb_S2_S1_0) (Shape.Idx.first h) = (V c main_v21 : FVec Ideal S2 .f32) (ix1 0) := by
  intro h
  refine (show _ = (V c main_v21 : FVec Ideal S2 .f32)
    (((cfg2.win 3).blk t).view.emb ((Rect.unit ![0] ![1] inb_S2_S1_0).emb (Shape.Idx.first h))) from rfl).trans ?_
  refine congrArg (V c main_v21 : FVec Ideal S2 .f32) ?_
  blk_ext [score_index t]

/-- The second of the two scalars. -/
theorem score_scalar1 (c : Dev nD) (t : Fin cfg2.N) :
    ∀ h, View.ld (iblk2 V c 3 t : Vec Ideal S2 .f32) (Rect.unit ![1] ![1] inb_S2_S1_1) (Shape.Idx.first h) = (V c main_v21 : FVec Ideal S2 .f32) (ix1 1) := by
  intro h
  refine (show _ = (V c main_v21 : FVec Ideal S2 .f32)
    (((cfg2.win 3).blk t).view.emb ((Rect.unit ![1] ![1] inb_S2_S1_1).emb (Shape.Idx.first h))) from rfl).trans ?_
  refine congrArg (V c main_v21 : FVec Ideal S2 .f32) ?_
  blk_ext [score_index t]

/-- A block of scores spans the tokens in order. -/
theorem score_place (t : Fin cfg2.N) (y : S1x1x576.Idx) : (y 2 : Fin 576) = ((cfg2.win 4).blk t).view.emb y 2 := by
  refine Fin.ext ?_
  blk_ext [score_index t]

/-- When the scoring call ends, entry (l, j) of its array is the z-score of token j of layer l. -/
theorem score_array (c : Dev nD) (l : Fin 24) (j : Fin 576) :
    ((dat2 (F := Ideal) V c).arrAt 4 cfg2.N : FVec Ideal S24x1x576 .f32) (ix3 l 0 j)
      = factoredZ (layers (V c main_arg1) l) (mat (V c main_arg14)) (fun d => (V c main_v22 : FVec Ideal S2048x1 .f32) (ix2 d 0))
          ((V c main_v21 : FVec Ideal S2 .f32) (ix1 0)) ((V c main_v21 : FVec Ideal S2 .f32) (ix1 1)) j := by
  suffices h : (dat2 (F := Ideal) V c).arrAt 4 cfg2.N = fun i => factoredZ (layers (V c main_arg1) (i 0)) (mat (V c main_arg14))
      (fun d => (V c main_v22 : FVec Ideal S2048x1 .f32) (ix2 d 0))
      ((V c main_v21 : FVec Ideal S2 .f32) (ix1 0)) ((V c main_v21 : FVec Ideal S2 .f32) (ix1 1)) (i 2) by rw [h]; rfl
  refine (dat2 (F := Ideal) V c).arrAt_eq_of_covers 4 _ (by decide +kernel) fun t hf y => ?_
  blk_simp
  rw [after2_4]
  unfold outsAt2
  frame_out
  have e : (y : S1x1x576.Idx) = ix3 (0 : Fin 1) (0 : Fin 1) (y 2 : Fin 576) := by blk_ext []
  refine (congrArg _ e).trans ((zscore_at _ _ _ _ _ _).trans ?_)
  rw [score_tokens V c t y, score_keys V c t, score_scalar0, score_scalar1, funext (score_column V c t)]
  exact congrArg _ (score_place t y)

end Cert.KernelIdeal.Arrays
-- ==== Proof.KernelResult.lean ====
/-
  What the kernel's program leaves in its result: the rows of the tokens with the highest standardised scores, the scores in the
  kernel's form.
-/
module

public import proofs.«01_k».proof.Proof.Result
public import proofs.«01_k».proof.Proof.KernelQuery
public import proofs.«01_k».proof.Proof.KernelScore
public import Idealize.ShloMosaic.Lib.StableHlo.ReadAt

@[expose] public section

set_option maxRecDepth 16384

noncomputable section

namespace Cert.KernelIdeal.Result

open Idealize.ShloMosaic Idealize.ShloMosaic.TcCoe Cert.Score Cert.KernelIdeal Cert.KernelIdeal.Gen Cert.KernelIdeal.Blocks
  Cert.KernelIdeal.Arrays

variable (m : (ℓ : Loc nD τ sig) → Buf (Elt Ideal) ℓ) (ρ : Dev nD → PrngReg) (c : Dev nD)

/-- The arguments that the launch memory holds. -/
def args : Args where
  text := m ((c.tc : Thread nD τ).loc main_arg0)
  X := m ((c.tc : Thread nD τ).loc main_arg1)
  W1 := m ((c.tc : Thread nD τ).loc main_arg2)
  W1b := m ((c.tc : Thread nD τ).loc main_arg3)
  Wc := m ((c.tc : Thread nD τ).loc main_arg4)
  Wcb := m ((c.tc : Thread nD τ).loc main_arg5)
  Wi := m ((c.tc : Thread nD τ).loc main_arg6)
  Wib := m ((c.tc : Thread nD τ).loc main_arg7)
  Wf := m ((c.tc : Thread nD τ).loc main_arg8)
  Wfb := m ((c.tc : Thread nD τ).loc main_arg9)
  bc := m ((c.tc : Thread nD τ).loc main_arg10)
  bi := m ((c.tc : Thread nD τ).loc main_arg11)
  bf := m ((c.tc : Thread nD τ).loc main_arg12)
  Wq := m ((c.tc : Thread nD τ).loc main_arg13)
  Wk := m ((c.tc : Thread nD τ).loc main_arg14)
  w := m ((c.tc : Thread nD τ).loc main_arg15)
  b := m ((c.tc : Thread nD τ).loc main_arg16)

/-- The entries of a one-axis array. -/
abbrev vec {n : ℕ} (v : FVec Ideal ⟨1, ![n]⟩ .f32) : Row n := fun d => v (ix1 d)

/-! ## The host operations between the calls, at any contents -/

section Host

variable (V : Valuation τ sig (Elt Ideal))

/-- The pooled layers without their middle axis. -/
theorem pooled_rows (l : Fin 24) (d : Fin 2048) : (StableHlo.after hostOps1 V (Proc.devRef .tc main_v1) : FVec Ideal S24x2048 .f32) (ix2 l d)
    = (V (Proc.devRef .tc main_v0) : FVec Ideal S24x1x2048 .f32) (ix3 l 0 d) := by
  after_reads_at

/-- The hidden layer's bias as a row. -/
theorem hidden_bias (r : Fin 512) : (StableHlo.after hostOps1 V (Proc.devRef .tc main_v2) : FVec Ideal S1x512 .f32) (ix2 0 r)
    = vec (V (Proc.devRef .tc main_arg3)) r := by
  after_reads_at

/-- The candidate's two biases, added. -/
theorem candidate_bias (d : Fin 2048) : (StableHlo.after hostOps1 V (Proc.devRef .tc main_v4) : FVec Ideal S1x2048 .f32) (ix2 0 d)
    = vec (V (Proc.devRef .tc main_arg5)) d + vec (V (Proc.devRef .tc main_arg10)) d := by
  after_reads_at

/-- The input gate's two biases, added. -/
theorem input_bias (d : Fin 2048) : (StableHlo.after hostOps1 V (Proc.devRef .tc main_v6) : FVec Ideal S1x2048 .f32) (ix2 0 d)
    = vec (V (Proc.devRef .tc main_arg7)) d + vec (V (Proc.devRef .tc main_arg11)) d := by
  after_reads_at

/-- The forget gate's two biases, added. -/
theorem forget_bias (d : Fin 2048) : (StableHlo.after hostOps1 V (Proc.devRef .tc main_v8) : FVec Ideal S1x2048 .f32) (ix2 0 d)
    = vec (V (Proc.devRef .tc main_arg9)) d + vec (V (Proc.devRef .tc main_arg12)) d := by
  after_reads_at

/-- The layer norm's scale as a row. -/
theorem scale_row (d : Fin 2048) : (StableHlo.after hostOps1 V (Proc.devRef .tc main_v9) : FVec Ideal S1x2048 .f32) (ix2 0 d)
    = vec (V (Proc.devRef .tc main_arg15)) d := by
  after_reads_at

/-- The layer norm's shift as a row. -/
theorem shift_row (d : Fin 2048) : (StableHlo.after hostOps1 V (Proc.devRef .tc main_v10) : FVec Ideal S1x2048 .f32) (ix2 0 d)
    = vec (V (Proc.devRef .tc main_arg16)) d := by
  after_reads_at

/-- The query times the scale, as a column. -/
theorem scaled_query (d : Fin 2048) : (StableHlo.after hostOps2 V (Proc.devRef .tc main_v22) : FVec Ideal S2048x1 .f32) (ix2 d 0)
    = vec (V (Proc.devRef .tc main_arg15)) d * row (V (Proc.devRef .tc main_v11)) d := by
  after_reads_at

/-- The first of the two sums: of the scaled query. -/
theorem scaled_sum : (StableHlo.after hostOps2 V (Proc.devRef .tc main_v21) : FVec Ideal S2 .f32) (ix1 0)
    = ∑ d : Fin 2048, (vec (V (Proc.devRef .tc main_arg15)) d
        * row (V (Proc.devRef .tc main_v11)) d) := by
  after_reads_at

/-- The second of the two sums: of the shift times the query. -/
theorem shifted_sum : (StableHlo.after hostOps2 V (Proc.devRef .tc main_v21) : FVec Ideal S2 .f32) (ix1 1)
    = ∑ d : Fin 2048, (vec (V (Proc.devRef .tc main_arg16)) d
        * row (V (Proc.devRef .tc main_v11)) d) := by
  after_reads_at

/-- The scores in one line, and the tokens' rows that the best of them pick, by the program's own operations. -/
def evidence (X : FVec Ideal S24x576x2048 .f32) (s : FVec Ideal S13824 .f32) : FVec Ideal S64x2048 .f32 :=
  let top : IVec S64 32 := (Host.topK S64 0 (FloatOps.cmpfTotal .gt) s sliceFits_S13824_S64).2
  let at' : IVec S64x1 32 := broadcastInDim S64x1 ![0] bcast_S64_S64x1_0
    (select (cmpi .slt top (broadcastInDim S64 ![] bcast_S_S64 (constantI S_ 32 0#32)))
      (addi top (broadcastInDim S64 ![] bcast_S_S64 (constantI S_ 32 13824#32))) top)
  let inside : IVec S64 1 := Host.reduce IntOp.andi
    (andi (cmpi .sge at' (broadcastInDim S64x1 ![] bcast_S_S64x1 (constantI S_ 32 0#32)))
      (cmpi .sle at' (broadcastInDim S64x1 ![0, 1] bcast_S1x1_S64x1_0_1 (broadcastInDim S1x1 ![1] bcast_S1_S1x1_1 (constantI S1 32 13823#32)))))
    (constantI S_ 1 1#1) reducesTo_S64x1_S64_d1 h_S_
  select (broadcastInDim S64x2048 ![0] bcast_S64_S64x2048_0 inside)
    (Host.gather gather_S13824x2048_S64x1_S64x2048_1_0_n_n_0_1_12048 (shapeCast S13824x2048 X shapeCasts_S24x576x2048_S13824x2048) at')
    (broadcastInDim S64x2048 ![] bcast_S_S64x2048 (constant S_ .f32 0x7FC00000#32))

/-- The result is the rows that the best standardised scores pick. -/
theorem taken_eq : StableHlo.after hostOps3_1 (StableHlo.after hostOps3 V) (Proc.devRef .tc main_v26)
    = evidence (V (Proc.devRef .tc main_arg1)) (shapeCast S13824 (V (Proc.devRef .tc main_v23) : FVec Ideal S24x1x576 .f32) shapeCasts_S24x1x576_S13824) := by
  rw [evidence]
  after_reads_simp
  simp -implicitDefEqProofs only [StableHlo.TRef.toBuf, StableHlo.TRef.ofBuf, cast_cast, cast_eq]
  rfl

/-- The layers' scores in one line. -/
theorem line_at (f : FVec Ideal S24x1x576 .f32) (g : Fin 24 → Row 576) (h : ∀ l j, f (ix3 l 0 j) = g l j) :
    shapeCast S13824 f shapeCasts_S24x1x576_S13824 = inLine g := by
  funext i
  rw [show i = ix1 (i 0) from by funext a; fin_cases a; rfl]
  pointwise
  exact h _ _

end Host

/-! ## The program's own contents -/

/-- An argument's contents when the recurrence call's host operations begin. -/
theorem arg1_eq (r : Ref sig .tc) (h : r ∈ argRefs) : W1 m ρ c (Proc.devRef .tc r) = m ((c.tc : Thread nD τ).loc r) := W1_args m ρ c r h

/-- The pooled features that the recurrence call reads. -/
theorem pooled_eq : (fun (l : Fin 24) (d : Fin 2048) => (V2 m ρ c main_v1 : FVec Ideal S24x2048 .f32) (ix2 l d)) = pooled (args m c).tokensOf := by
  funext l d
  refine (pooled_rows (W1 m ρ c) l d).trans ?_
  refine (congrFun (W1_arr m ρ c 1) (ix3 l 0 d)).trans ?_
  exact pool_array (V0 m ρ) c l d

/-- The weights that the recurrence call reads. -/
theorem weights_eq : arrayWeights (V2 m ρ) c = (args m c).weights := by
  have a (r : Ref sig .tc) (h : r ∈ argRefs) : V2 m ρ c r = m ((c.tc : Thread nD τ).loc r) := W2_args m ρ c r h
  have b1 : row (V2 m ρ c main_v2) = vec (m ((c.tc : Thread nD τ).loc main_arg3)) := funext fun d => by
    refine (hidden_bias (W1 m ρ c) d).trans ?_
    rw [arg1_eq m ρ c main_arg3 (by decide)]
  have bc : row (V2 m ρ c main_v4) = vec (m ((c.tc : Thread nD τ).loc main_arg5)) + vec (m ((c.tc : Thread nD τ).loc main_arg10)) := funext fun d => by
    refine (candidate_bias (W1 m ρ c) d).trans ?_
    rw [arg1_eq m ρ c main_arg5 (by decide), arg1_eq m ρ c main_arg10 (by decide)]
    rfl
  have bi : row (V2 m ρ c main_v6) = vec (m ((c.tc : Thread nD τ).loc main_arg7)) + vec (m ((c.tc : Thread nD τ).loc main_arg11)) := funext fun d => by
    refine (input_bias (W1 m ρ c) d).trans ?_
    rw [arg1_eq m ρ c main_arg7 (by decide), arg1_eq m ρ c main_arg11 (by decide)]
    rfl
  have bf : row (V2 m ρ c main_v8) = vec (m ((c.tc : Thread nD τ).loc main_arg9)) + vec (m ((c.tc : Thread nD τ).loc main_arg12)) := funext fun d => by
    refine (forget_bias (W1 m ρ c) d).trans ?_
    rw [arg1_eq m ρ c main_arg9 (by decide), arg1_eq m ρ c main_arg12 (by decide)]
    rfl
  dsimp only [arrayWeights, Arrays.weights]
  rw [b1, bc, bi, bf, a main_arg2 (by decide), a main_arg4 (by decide), a main_arg6 (by decide), a main_arg8 (by decide)]
  rfl

/-- The scale and the shift that the recurrence call reads. -/
theorem scale_eq : row (V2 m ρ c main_v9) = (args m c).scale := funext fun d => by
  refine (scale_row (W1 m ρ c) d).trans ?_
  rw [arg1_eq m ρ c main_arg15 (by decide)]
  rfl

/-- The shift that the query is made with is the argument's. -/
theorem shift_eq : row (V2 m ρ c main_v10) = (args m c).shift := funext fun d => by
  refine (shift_row (W1 m ρ c) d).trans ?_
  rw [arg1_eq m ρ c main_arg16 (by decide)]
  rfl

/-- The recurrence call leaves the query. -/
theorem query_eq : row (W3 m ρ c (Proc.devRef .tc main_v11)) = (args m c).q := funext fun d => by
  refine (congrFun (W3_arr m ρ c 13) (ix2 0 d)).trans ?_
  refine (query_array (V2 m ρ) c d).trans ?_
  have a (r : Ref sig .tc) (h : r ∈ argRefs) : V2 m ρ c r = m ((c.tc : Thread nD τ).loc r) := W2_args m ρ c r h
  rw [arrayQuery, pooled_eq, weights_eq, scale_eq, shift_eq, a main_arg0 (by decide), a main_arg13 (by decide)]
  rfl

/-- The scoring call leaves the standardised scores. -/
theorem scores_eq (l : Fin 24) (j : Fin 576) :
    (W5 m ρ c (Proc.devRef .tc main_v23) : FVec Ideal S24x1x576 .f32) (ix3 l 0 j) = (args m c).factored l j := by
  refine (congrFun (W5_arr m ρ c 4) (ix3 l 0 j)).trans ?_
  refine (score_array (V4 m ρ) c l j).trans ?_
  have a (r : Ref sig .tc) (h : r ∈ argRefs) : V4 m ρ c r = m ((c.tc : Thread nD τ).loc r) := W4_args m ρ c r h
  have a3 (r : Ref sig .tc) (h : r ∈ argRefs) : W3 m ρ c (Proc.devRef .tc r) = m ((c.tc : Thread nD τ).loc r) := W3_args m ρ c r h
  have hp : (fun d : Fin 2048 => (V4 m ρ c main_v22 : FVec Ideal S2048x1 .f32) (ix2 d 0)) = fun d => (args m c).scale d * (args m c).q d :=
    funext fun d => by
      refine (scaled_query (W3 m ρ c) d).trans ?_
      rw [query_eq, a3 main_arg15 (by decide)]
      rfl
  have h0 : (V4 m ρ c main_v21 : FVec Ideal S2 .f32) (ix1 0) = ∑ d, (args m c).scale d * (args m c).q d := by
    refine (scaled_sum (W3 m ρ c)).trans ?_
    rw [query_eq, a3 main_arg15 (by decide)]
    rfl
  have h1 : (V4 m ρ c main_v21 : FVec Ideal S2 .f32) (ix1 1) = ∑ d, (args m c).shift d * (args m c).q d := by
    refine (shifted_sum (W3 m ρ c)).trans ?_
    rw [query_eq, a3 main_arg16 (by decide)]
    rfl
  rw [hp, h0, h1, a main_arg1 (by decide), a main_arg14 (by decide)]
  rfl

/-- The program's result: the tokens' rows that the best scores pick, the scores in the kernel's form. -/
theorem result_eq : W7 m ρ c (Proc.devRef .tc main_v26) = evidence (args m c).X (inLine (args m c).factored) := by
  refine (taken_eq (W5 m ρ c)).trans ?_
  rw [line_at _ _ (scores_eq m ρ c)]
  refine congrArg (fun X => evidence X _) ?_
  exact W5_args m ρ c main_arg1 (by decide)

end Cert.KernelIdeal.Result

end
-- ==== Proof.ReferenceLoop.lean ====
/-
  The reference's loop: after k trips the carried row is the recurrence's state after k layers, and the rows written so far hold
  the states after each layer.
-/
module

public import proofs.«01_k».proof.Proof.Result
public import proofs.«01_k».proof.Proof.Gen.ReferenceIdeal.Run
public import Idealize.ShloMosaic.Lib.Pipeline.ValueKit
public import Idealize.ShloMosaic.Lib.StableHlo.ReadAt

@[expose] public section

set_option maxRecDepth 16384

noncomputable section

namespace Cert.ReferenceIdeal.Result

open Idealize.ShloMosaic Idealize.ShloMosaic.TcCoe Cert.Score Cert.ReferenceIdeal Cert.ReferenceIdeal.Gen Cert.ReferenceIdeal.Value StableHlo

/-! ## One row of a table, read and written at a counted place -/

/-- Where a one-row window starts when it is asked to start at row k. -/
theorem start_row {k : ℕ} (hk : k < 24) (s : Fin 2 → Int) (h0 : s 0 = k) (h : S1x2048.rank = S24x2048.rank) :
    Host.clampedStart S24x2048 S1x2048 h s 0 = k :=
  Host.clampedStart_of_le h s 0 k h0 (show k + 1 ≤ 24 by omega)

/-- Where it starts along the row. -/
theorem start_column (s : Fin 2 → Int) (h1 : s 1 = 0) (h : S1x2048.rank = S24x2048.rank) :
    Host.clampedStart S24x2048 S1x2048 h s 1 = 0 :=
  Host.clampedStart_of_le h s 1 0 h1 (show 0 + 2048 ≤ 2048 by omega)

/-- A row written at place k replaces row k and leaves the others. -/
theorem write_row {k : ℕ} (hk : k < 24) (x : FVec Ideal S24x2048 .f32) (u : FVec Ideal S1x2048 .f32) (s : Fin 2 → Int) (h0 : s 0 = k)
    (h1 : s 1 = 0) (h) (l : Fin 24) (d : Fin 2048) :
    Host.dynamicUpdateSlice x u s h (ix2 l d) = if l.val = k then u (ix2 0 d) else x (ix2 l d) := by
  refine (Host.dynamicUpdateSlice_apply x u s h (ix2 l d)).trans ?_
  have a0 := start_row hk s h0 h.1
  have a1 := start_column s h1 h.1
  by_cases e : l.val = k
  · rw [if_pos e, dif_pos]
    · refine congrArg u ?_
      refine Shape.idx_ext₂ ?_ ?_
      · exact (show l.val - Host.clampedStart S24x2048 S1x2048 h.1 s 0 = 0 by omega)
      · exact (show d.val - Host.clampedStart S24x2048 S1x2048 h.1 s 1 = d.val by omega)
    · refine Fin.forall_fin_two.mpr ⟨?_, ?_⟩
      · exact (show Host.clampedStart S24x2048 S1x2048 h.1 s 0 ≤ l.val ∧ l.val < Host.clampedStart S24x2048 S1x2048 h.1 s 0 + 1 by omega)
      · exact (show Host.clampedStart S24x2048 S1x2048 h.1 s 1 ≤ d.val ∧ d.val < Host.clampedStart S24x2048 S1x2048 h.1 s 1 + 2048 by omega)
  · rw [if_neg e, dif_neg]
    intro hin
    have := (show Host.clampedStart S24x2048 S1x2048 h.1 s 0 ≤ l.val ∧ l.val < Host.clampedStart S24x2048 S1x2048 h.1 s 0 + 1 from hin 0)
    omega

/-- The counter as a number. -/
theorem counter_val {k : ℕ} (hk : k < 24) : (Scf.iv 0#32 1#32 k).toInt = k :=
  (by decide +kernel : ∀ k : Fin 24, (Scf.iv 0#32 1#32 k.val).toInt = (k.val : Int)) ⟨k, hk⟩

/-! ## What the carried buffers hold before each trip -/

/-- The carried buffers before trip k, for the arguments A. -/
structure Holds (A : Args) (k : ℕ) (V : Valuation τ sig (Elt Ideal)) : Prop where
  counter : V (Proc.devRef .tc main_v26_13) = fun _ => Scf.iv 0#32 1#32 k
  layer : ∀ l d, (V (Proc.devRef .tc main_v26_0) : FVec Ideal S24x2048 .f32) (ix2 l d) = pooled A.tokensOf l d
  text : ∀ d, (V (Proc.devRef .tc main_v26_1) : FVec Ideal S2048 .f32) (ix1 d) = A.tg d
  W1 : (V (Proc.devRef .tc main_v26_2) : FVec Ideal S512x6144 .f32) = A.W1
  W1b : (V (Proc.devRef .tc main_v26_3) : FVec Ideal S512 .f32) = A.W1b
  Wc : (V (Proc.devRef .tc main_v26_4) : FVec Ideal S2048x512 .f32) = A.Wc
  Wcb : (V (Proc.devRef .tc main_v26_5) : FVec Ideal S2048 .f32) = A.Wcb
  bc : (V (Proc.devRef .tc main_v26_6) : FVec Ideal S2048 .f32) = A.bc
  Wi : (V (Proc.devRef .tc main_v26_7) : FVec Ideal S2048x512 .f32) = A.Wi
  Wib : (V (Proc.devRef .tc main_v26_8) : FVec Ideal S2048 .f32) = A.Wib
  bi : (V (Proc.devRef .tc main_v26_9) : FVec Ideal S2048 .f32) = A.bi
  Wf : (V (Proc.devRef .tc main_v26_10) : FVec Ideal S2048x512 .f32) = A.Wf
  Wfb : (V (Proc.devRef .tc main_v26_11) : FVec Ideal S2048 .f32) = A.Wfb
  bf : (V (Proc.devRef .tc main_v26_12) : FVec Ideal S2048 .f32) = A.bf
  state : ∀ d, (V (Proc.devRef .tc main_v26_14) : FVec Ideal S2048 .f32) (ix1 d) = A.stateAfter k d
  states : ∀ l : Fin 24, l.val < k → ∀ d, (V (Proc.devRef .tc main_v26_15) : FVec Ideal S24x2048 .f32) (ix2 l d) = A.stateAfter (l.val + 1) d

section Trip

variable {A : Args} {k : ℕ} {V : Valuation τ sig (Elt Ideal)}

/-- Where a trip's window starts: at the counter's row. -/
abbrev starts (V : Valuation τ sig (Elt Ideal)) : Fin 2 → Int := fun k =>
  ((![V (Proc.devRef .tc main_v26_13), constantI S_ 32 0#32] : Fin 2 → (⟨S_, .i32⟩ : BufTy).Contents (Elt Ideal)) k (Shape.Idx.first h_S_)).toInt

/-- Trip k writes its state at row k. -/
theorem starts_row (h : Holds A k V) (hk : k < 24) : starts V 0 = k := by
  show ((V (Proc.devRef .tc main_v26_13) : IVec S_ 32) (Shape.Idx.first h_S_)).toInt = k
  rw [h.counter]
  exact counter_val hk

/-- A trip writes its state from the first column on. -/
theorem starts_column (V : Valuation τ sig (Elt Ideal)) : starts V 1 = 0 := rfl

/-- The hidden layer that trip k computes. -/
theorem hidden_at (h : Holds A k V) (hk : k < 24) (r : Fin 512) : (res_main_while0b_v106 V : FVec Ideal S512 .f32) (ix1 r)
    = hiddenLayer A.weights (A.stateAfter k) (pooled A.tokensOf (Fin.ofNat 24 k)) A.tg r := by
  unfold res_main_while0b_v106
  pointwise
  rw [h.W1, h.W1b]
  refine congrArg (fun t : EReal => max (t + A.W1b (ix1 r)) 0) (Finset.sum_congr rfl fun x _ => ?_)
  refine congrArg (fun t : EReal => t * A.W1 (ix2 r x)) ?_
  refine dite_congr rfl (fun hx => ?_) fun hx => dite_congr rfl (fun hx' => ?_) fun hx' => ?_
  · exact congrArg Ideal.logistic (h.state _)
  · refine (congrArg₂ (fun a b => (V (Proc.devRef .tc main_v26_0) : FVec Ideal S24x2048 .f32) (ix2 a b)) (Fin.ext ?_) (Fin.ext ?_)).trans (h.layer (Fin.ofNat 24 k) ⟨x.val - 2048, hx'⟩)
    · exact (start_row hk (starts V) (starts_row h hk) rfl).trans (Nat.mod_eq_of_lt hk).symm
    · exact (congrArg (· + (x.val - 2048)) (start_column (starts V) (starts_column V) rfl)).trans (Nat.zero_add _)
  · exact h.text _

/-- The state that trip k computes. -/
theorem next_at (h : Holds A k V) (hk : k < 24) (d : Fin 2048) : (res_main_while0b_v134 V : FVec Ideal S2048 .f32) (ix1 d) = A.stateAfter (k + 1) d := by
  unfold res_main_while0b_v134
  pointwise
  rw [h.Wc, h.Wcb, h.bc, h.Wi, h.Wib, h.bi, h.Wf, h.Wfb, h.bf, h.state]
  simp only [hidden_at h hk, add_assoc]
  rfl

/-- A trip takes the buffers to what they hold before the next. -/
theorem holds_step (h : Holds A k V) (hk : k < 24) : Holds A (k + 1) (STEP V) where
  counter := by
    rw [STEP_main_v26_13, step_main_v26_13, id, h.counter]
    exact funext fun _ => (by decide +kernel : ∀ k : Fin 24, Scf.iv 0#32 1#32 k.val + 1#32 = Scf.iv 0#32 1#32 (k.val + 1)) ⟨k, hk⟩
  layer l d := by rw [STEP_main_v26_0]; exact h.layer l d
  text d := by rw [STEP_main_v26_1]; exact h.text d
  W1 := by rw [STEP_main_v26_2]; exact h.W1
  W1b := by rw [STEP_main_v26_3]; exact h.W1b
  Wc := by rw [STEP_main_v26_4]; exact h.Wc
  Wcb := by rw [STEP_main_v26_5]; exact h.Wcb
  bc := by rw [STEP_main_v26_6]; exact h.bc
  Wi := by rw [STEP_main_v26_7]; exact h.Wi
  Wib := by rw [STEP_main_v26_8]; exact h.Wib
  bi := by rw [STEP_main_v26_9]; exact h.bi
  Wf := by rw [STEP_main_v26_10]; exact h.Wf
  Wfb := by rw [STEP_main_v26_11]; exact h.Wfb
  bf := by rw [STEP_main_v26_12]; exact h.bf
  state d := by rw [STEP_main_v26_14]; exact next_at h hk d
  states l hl d := by
    rw [STEP_main_v26_15, step_main_v26_15, id]
    refine (write_row hk _ _ (starts V) (starts_row h hk) (starts_column V) _ l d).trans ?_
    by_cases e : l.val = k
    · rw [if_pos e, e, ← next_at h hk d]
      pointwise
    · rw [if_neg e]
      exact h.states l (by omega) d

/-- What the buffers hold is settled by the carried buffers alone. -/
theorem Holds.congr {V' : Valuation τ sig (Elt Ideal)} (h : Holds A k V) (e : Agree V' V) : Holds A k V' where
  counter := by rw [e main_v26_13 (by decide)]; exact h.counter
  layer l d := by rw [e main_v26_0 (by decide)]; exact h.layer l d
  text d := by rw [e main_v26_1 (by decide)]; exact h.text d
  W1 := by rw [e main_v26_2 (by decide)]; exact h.W1
  W1b := by rw [e main_v26_3 (by decide)]; exact h.W1b
  Wc := by rw [e main_v26_4 (by decide)]; exact h.Wc
  Wcb := by rw [e main_v26_5 (by decide)]; exact h.Wcb
  bc := by rw [e main_v26_6 (by decide)]; exact h.bc
  Wi := by rw [e main_v26_7 (by decide)]; exact h.Wi
  Wib := by rw [e main_v26_8 (by decide)]; exact h.Wib
  bi := by rw [e main_v26_9 (by decide)]; exact h.bi
  Wf := by rw [e main_v26_10 (by decide)]; exact h.Wf
  Wfb := by rw [e main_v26_11 (by decide)]; exact h.Wfb
  bf := by rw [e main_v26_12 (by decide)]; exact h.bf
  state d := by rw [e main_v26_14 (by decide)]; exact h.state d
  states l hl d := by rw [e main_v26_15 (by decide)]; exact h.states l hl d

end Trip

/-! ## The loop's entry -/

variable (m : (ℓ : Loc nD τ sig) → Buf (Elt Ideal) ℓ) (c : Dev nD)

/-- The arguments that the launch memory holds. -/
def args : Args where
  text := m ((c.tc : Thread nD τ).loc main_arg0)
  X := m ((c.tc : Thread nD τ).loc main_arg1)
  W1 := m ((c.tc : Thread nD τ).loc main_arg2)
  W1b := m ((c.tc : Thread nD τ).loc main_arg3)
  Wc := m ((c.tc : Thread nD τ).loc main_arg4)
  Wcb := m ((c.tc : Thread nD τ).loc main_arg5)
  Wi := m ((c.tc : Thread nD τ).loc main_arg6)
  Wib := m ((c.tc : Thread nD τ).loc main_arg7)
  Wf := m ((c.tc : Thread nD τ).loc main_arg8)
  Wfb := m ((c.tc : Thread nD τ).loc main_arg9)
  bc := m ((c.tc : Thread nD τ).loc main_arg10)
  bi := m ((c.tc : Thread nD τ).loc main_arg11)
  bf := m ((c.tc : Thread nD τ).loc main_arg12)
  Wq := m ((c.tc : Thread nD τ).loc main_arg13)
  Wk := m ((c.tc : Thread nD τ).loc main_arg14)
  w := m ((c.tc : Thread nD τ).loc main_arg15)
  b := m ((c.tc : Thread nD τ).loc main_arg16)

section Entry

variable (V : Valuation τ sig (Elt Ideal))

/-- The text features before the loop. -/
theorem text_entry (d : Fin 2048) : (StableHlo.after hostOps0 V (Proc.devRef .tc main_v26_1) : FVec Ideal S2048 .f32) (ix1 d)
    = textGlobal (fun i e => (V (Proc.devRef .tc main_arg0) : FVec Ideal S128x2048 .f32) (ix2 i e)) d := by
  after_reads_at
  rw [id]
  pointwise
  rfl

/-- The pooled features before the loop. -/
theorem layer_entry (l : Fin 24) (d : Fin 2048) : (StableHlo.after hostOps0 V (Proc.devRef .tc main_v26_0) : FVec Ideal S24x2048 .f32) (ix2 l d)
    = pooled (fun l j e => (V (Proc.devRef .tc main_arg1) : FVec Ideal S24x576x2048 .f32) (ix3 l j e)) l d := by
  after_reads_at
  rw [id]
  pointwise
  rfl

/-- The state before the loop is zero. -/
theorem state_entry (d : Fin 2048) : (StableHlo.after hostOps0 V (Proc.devRef .tc main_v26_14) : FVec Ideal S2048 .f32) (ix1 d) = (0 : EReal) := by
  after_reads_at
  rw [id]
  pointwise

end Entry

/-- What the carried buffers hold at the loop's entry. -/
theorem holds_entry : Holds (args m c) 0 (entryContents preI m c) where
  counter := ctr_entry m c
  layer l d := layer_entry _ l d
  text d := text_entry _ d
  W1 := by show StableHlo.after hostOps0 _ _ = _; after_reads_simp; rfl
  W1b := by show StableHlo.after hostOps0 _ _ = _; after_reads_simp; rfl
  Wc := by show StableHlo.after hostOps0 _ _ = _; after_reads_simp; rfl
  Wcb := by show StableHlo.after hostOps0 _ _ = _; after_reads_simp; rfl
  bc := by show StableHlo.after hostOps0 _ _ = _; after_reads_simp; rfl
  Wi := by show StableHlo.after hostOps0 _ _ = _; after_reads_simp; rfl
  Wib := by show StableHlo.after hostOps0 _ _ = _; after_reads_simp; rfl
  bi := by show StableHlo.after hostOps0 _ _ = _; after_reads_simp; rfl
  Wf := by show StableHlo.after hostOps0 _ _ = _; after_reads_simp; rfl
  Wfb := by show StableHlo.after hostOps0 _ _ = _; after_reads_simp; rfl
  bf := by show StableHlo.after hostOps0 _ _ = _; after_reads_simp; rfl
  state d := state_entry _ d
  states l hl := absurd hl (Nat.not_lt_zero _)

/-- What they hold before trip k. -/
theorem holds_trips (k : ℕ) (hk : k ≤ 24) : Holds (args m c) k (atK m k c) := by
  refine Holds.congr (V := STEP^[k] (entryContents preI m c)) ?_ (atK_agree m c k)
  induction k with
  | zero => exact holds_entry m c
  | succ k ih =>
    rw [Function.iterate_succ_apply']
    exact holds_step (ih (by omega)) hk

end Cert.ReferenceIdeal.Result

end
-- ==== Proof.ReferenceResult.lean ====
/-
  What the reference leaves in its result: the rows of the tokens with the highest standardised scores.
-/
module

public import proofs.«01_k».proof.Proof.ReferenceLoop

@[expose] public section

set_option maxRecDepth 16384

noncomputable section

namespace Cert.ReferenceIdeal.Result

open Idealize.ShloMosaic Idealize.ShloMosaic.TcCoe Cert.Score Cert.ReferenceIdeal Cert.ReferenceIdeal.Gen Cert.ReferenceIdeal.Value StableHlo

/-! ## The arguments keep their contents -/

/-- The arguments' references. -/
abbrev argRefs : List (Ref sig .tc) := [main_arg0, main_arg1, main_arg2, main_arg3, main_arg4, main_arg5, main_arg6, main_arg7, main_arg8,
  main_arg9, main_arg10, main_arg11, main_arg12, main_arg13, main_arg14, main_arg15, main_arg16]

section Keep

variable (V : Valuation τ sig (Elt Ideal)) (r : Ref sig .tc) (hr : r ∈ argRefs)
include hr

/-- Operations that write only references outside the arguments keep the arguments. -/
theorem keep_of {ops : List (HloOp τ sig (Elt Ideal))} {W : List (Ref sig .tc)}
    (hw : ops.Forall fun op => op.writes ⊆ (W.map (Proc.devRef (τ := τ) .tc)).toFinset) (hd : ∀ r ∈ argRefs, r ∉ W) :
    after ops V (Proc.devRef .tc r) = V (Proc.devRef .tc r) :=
  after_of_writes_sub ops V hw (hd r hr)

/-- The lines before the loop keep the arguments. -/
theorem keep_before : after hostOps0 V (Proc.devRef .tc r) = V (Proc.devRef .tc r) := keep_of V r hr hostOps0_writes (by decide)

/-- The loop's test keeps the arguments. -/
theorem keep_test : after condOps V (Proc.devRef .tc r) = V (Proc.devRef .tc r) := keep_of V r hr condOps_writes (by decide)

/-- A trip keeps the arguments. -/
theorem keep_body : afterL bodyI V (Proc.devRef .tc r) = V (Proc.devRef .tc r) := by
  simp only [afterL_cons, afterL_nil]
  rw [keep_of _ r hr while0Ops0_5_writes (by decide), keep_of _ r hr while0Ops0_4_writes (by decide), keep_of _ r hr while0Ops0_3_writes (by decide),
    keep_of _ r hr while0Ops0_2_writes (by decide), keep_of _ r hr while0Ops0_1_writes (by decide), keep_of _ r hr while0Ops0_writes (by decide)]

/-- The operations after the loop keep the arguments. -/
theorem keep_after : afterL postI V (Proc.devRef .tc r) = V (Proc.devRef .tc r) := by
  simp only [afterL_cons, afterL_nil]
  simp only [argRefs, List.mem_cons, List.not_mem_nil, or_false] at hr
  rcases hr with rfl | rfl | rfl | rfl | rfl | rfl | rfl | rfl | rfl | rfl | rfl | rfl | rfl | rfl | rfl | rfl | rfl <;> after_reads_simp

end Keep

section Contents

variable (m : (ℓ : Loc nD τ sig) → Buf (Elt Ideal) ℓ) (c : Dev nD)

/-- The contents after the loop. -/
abbrev left : Valuation τ sig (Elt Ideal) := after condOps (atK m 24 c)

/-- Before every trip the arguments are as launched. -/
theorem args_trips (r : Ref sig .tc) (hr : r ∈ argRefs) (k : ℕ) : atK m k c (Proc.devRef .tc r) = m ((c.tc : Thread nD τ).loc r) := by
  induction k with
  | zero => exact keep_before _ r hr
  | succ k ih => exact (keep_body _ r hr).trans ((keep_test _ r hr).trans ih)

/-- After the loop the arguments are as launched. -/
theorem args_left (r : Ref sig .tc) (hr : r ∈ argRefs) : left m c (Proc.devRef .tc r) = m ((c.tc : Thread nD τ).loc r) :=
  (keep_test _ r hr).trans (args_trips m c r hr 24)

/-- At the end the arguments are as launched. -/
theorem args_end (r : Ref sig .tc) (hr : r ∈ argRefs) :
    finalContents condOps preI bodyI postI 24 m c (Proc.devRef .tc r) = m ((c.tc : Thread nD τ).loc r) :=
  (keep_after _ r hr).trans (args_left m c r hr)

/-- The row that the query is made from: the state after 23 layers. -/
theorem row_left (d : Fin 2048) : (left m c (Proc.devRef .tc main_v26_15) : FVec Ideal S24x2048 .f32) (ix2 22 d) = (args m c).stateAfter 23 d := by
  have e : left m c (Proc.devRef .tc main_v26_15) = atK m 24 c (Proc.devRef .tc main_v26_15) := after_of_writes_sub condOps _ condOps_writes (by decide)
  rw [e]
  exact (holds_trips m c 24 le_rfl).states 22 (by decide) d

end Contents

/-! ## The operations after the loop, at any contents -/

section After

variable (V : Valuation τ sig (Elt Ideal))

/-- The entries of a two-axis array. -/
abbrev table {n k : ℕ} (v : FVec Ideal ⟨2, ![n, k]⟩ .f32) : Mat n k := fun l j => v (ix2 l j)

/-- A token's score, against the query made from row 22. -/
theorem score_at (l : Fin 24) (j : Fin 576) : (after hostOps0_1 V (Proc.devRef .tc main_v80) : FVec Ideal S24x576 .f32) (ix2 l j)
    = plainScore len eps (mulRows (fun e => (V (Proc.devRef .tc main_arg1) : FVec Ideal S24x576x2048 .f32) (ix3 l j e))
        (fun d e => (V (Proc.devRef .tc main_arg14) : FVec Ideal S2048x2048 .f32) (ix2 d e)))
        (fun d => (V (Proc.devRef .tc main_arg15) : FVec Ideal S2048 .f32) (ix1 d))
        (fun d => (V (Proc.devRef .tc main_arg16) : FVec Ideal S2048 .f32) (ix1 d))
      (query (fun e => (V (Proc.devRef .tc main_v26_15) : FVec Ideal S24x2048 .f32) (ix2 22 e))
        (fun d e => (V (Proc.devRef .tc main_arg13) : FVec Ideal S2048x2048 .f32) (ix2 d e))
        (fun d => (V (Proc.devRef .tc main_arg15) : FVec Ideal S2048 .f32) (ix1 d))
        (fun d => (V (Proc.devRef .tc main_arg16) : FVec Ideal S2048 .f32) (ix1 d))) := by
  after_reads_simp
  pointwise
  rfl

/-- The mean of a layer's scores. -/
theorem mean_at (l : Fin 24) : (after hostOps0_1 V (Proc.devRef .tc main_v84) : FVec Ideal S24x1 .f32) (ix2 l 0)
    = mean tokens fun j => (after hostOps0_1 V (Proc.devRef .tc main_v80) : FVec Ideal S24x576 .f32) (ix2 l j) := by
  after_reads_simp
  generalize hu : Host.reduceAdd (F := Ideal) (s := S24x576x2048) (t := S24x576) _ _ _ _ = u
  pointwise
  rfl

/-- The degrees of freedom taken off the spread are none. -/
theorem delta_at : after hostOps0_1 V (Proc.devRef .tc main_c_23) = constantI S_ 32 0#32 := by
  after_reads_simp

/-- The root of the spread of a layer's scores, the degrees of freedom taken off being none. -/
theorem root_at (hV : V (Proc.devRef .tc main_c_23) = constantI S_ 32 0#32) (l : Fin 24) :
    (after hostOps0_2 V (Proc.devRef .tc main_v85) : FVec Ideal S24x1 .f32) (ix2 l 0)
      = Ideal.sqrt (spread tokens fun j => (V (Proc.devRef .tc main_v80) : FVec Ideal S24x576 .f32) (ix2 l j)) := by
  have h0 : (FloatOps.sitofp (F := Ideal) .f32 (0#32 : BitVec 32) : Ideal .f32) = (0 : EReal) := by
    refine (show _ = (((0#32 : BitVec 32).toInt : ℝ) : EReal) from rfl).trans ?_
    simp
  have hz : tokens - (FloatOps.sitofp (F := Ideal) .f32 (0#32 : BitVec 32) : Ideal .f32) = tokens := by
    rw [h0, sub_zero]
  have hp : (0 : EReal) < tokens := by
    rw [show tokens = ((576 : ℝ) : EReal) from ofBits_576]
    exact_mod_cast (by norm_num : (0 : ℝ) < 576)
  after_reads_simp
  simp -implicitDefEqProofs only [StableHlo.TRef.toBuf, StableHlo.TRef.ofBuf, cast_cast, cast_eq]
  rw [hV]
  pointwise
  rw [hz, if_pos hp]
  rfl

/-- A standardised score, from the scores, their means and the roots of their spreads. -/
theorem standard_at (l : Fin 24) (j : Fin 576) : (after hostOps0_3 V (Proc.devRef .tc main_v91) : FVec Ideal S24x576 .f32) (ix2 l j)
    = Ideal.div (table (V (Proc.devRef .tc main_v80)) l j - table (V (Proc.devRef .tc main_v84)) l 0) (table (V (Proc.devRef .tc main_v85)) l 0 + tiny) := by
  after_reads_simp
  pointwise

/-- The lines of the spread keep the scores. -/
theorem keep_scores : after hostOps0_2 V (Proc.devRef .tc main_v80) = V (Proc.devRef .tc main_v80) := by after_reads_simp
/-- The lines of the spread keep the scores' means. -/
theorem keep_means : after hostOps0_2 V (Proc.devRef .tc main_v84) = V (Proc.devRef .tc main_v84) := by after_reads_simp
/-- The lines of the spread keep the tokens. -/
theorem keep_tokens : after hostOps0_2 (after hostOps0_1 V) (Proc.devRef .tc main_arg1) = V (Proc.devRef .tc main_arg1) := by after_reads_simp

/-- The rows that the best scores pick, from the tokens and the scores in one line. -/
def evidence (X : FVec Ideal S24x576x2048 .f32) (s : FVec Ideal S13824 .f32) : FVec Ideal S64x2048 .f32 :=
  let top : IVec S64 32 := (Host.topK S64 0 (FloatOps.cmpfTotal .gt) s sliceFits_S13824_S64).2
  let at' : IVec S64x1 32 := broadcastInDim S64x1 ![0] bcast_S64_S64x1_0
    (select (cmpi .slt top (broadcastInDim S64 ![] bcast_S_S64 (constantI S_ 32 0#32)))
      (addi top (broadcastInDim S64 ![] bcast_S_S64 (constantI S_ 32 13824#32))) top)
  let inside : IVec S64 1 := Host.reduce IntOp.andi
    (andi (cmpi .sge at' (broadcastInDim S64x1 ![] bcast_S_S64x1 (constantI S_ 32 0#32)))
      (cmpi .sle at' (broadcastInDim S64x1 ![0, 1] bcast_S1x1_S64x1_0_1 (broadcastInDim S1x1 ![1] bcast_S1_S1x1_1 (constantI S1 32 13823#32)))))
    (constantI S_ 1 1#1) reducesTo_S64x1_S64_d1 h_S_
  select (broadcastInDim S64x2048 ![0] bcast_S64_S64x2048_0 inside)
    (Host.gather gather_S13824x2048_S64x1_S64x2048_1_0_n_n_0_1_12048 (shapeCast S13824x2048 X shapeCasts_S24x576x2048_S13824x2048) at')
    (broadcastInDim S64x2048 ![] bcast_S_S64x2048 (constant S_ .f32 0x7FC00000#32))

/-- The result is the rows that the best standardised scores pick. -/
theorem taken_eq : after hostOps0_4 (after hostOps0_3 V) (Proc.devRef .tc main_v94)
    = evidence (V (Proc.devRef .tc main_arg1))
        (shapeCast S13824 (after hostOps0_3 V (Proc.devRef .tc main_v91) : FVec Ideal S24x576 .f32) shapeCasts_S24x576_S13824) := by
  rw [evidence]
  after_reads_simp
  simp -implicitDefEqProofs only [StableHlo.TRef.toBuf, StableHlo.TRef.ofBuf, cast_cast, cast_eq]
  rfl

/-- A table laid out in one line. -/
theorem line_at (f : FVec Ideal S24x576 .f32) (g : Fin 24 → Row 576) (h : ∀ l j, f (ix2 l j) = g l j) :
    shapeCast S13824 f shapeCasts_S24x576_S13824 = inLine g := by
  funext i
  obtain ⟨i, rfl⟩ : ∃ k : Fin 13824, i = ix1 k := ⟨i 0, by funext a; match a with | 0 => rfl⟩
  pointwise
  exact h _ _

end After

/-! ## The program's own contents -/

section End

variable (m : (ℓ : Loc nD τ sig) → Buf (Elt Ideal) ℓ) (c : Dev nD)

/-- The scores before they are standardised. -/
theorem scores_eq (l : Fin 24) (j : Fin 576) : (after hostOps0_1 (left m c) (Proc.devRef .tc main_v80) : FVec Ideal S24x576 .f32) (ix2 l j)
    = plainScore len eps (mulRows ((args m c).tokensOf l j) (fun d e => (args m c).Wk (ix2 d e))) (args m c).scale (args m c).shift (args m c).q := by
  refine (score_at (left m c) l j).trans ?_
  rw [args_left m c main_arg1 (by decide), args_left m c main_arg13 (by decide), args_left m c main_arg14 (by decide),
    args_left m c main_arg15 (by decide), args_left m c main_arg16 (by decide), show (fun e => (left m c (Proc.devRef .tc main_v26_15) : FVec Ideal S24x2048 .f32) (ix2 22 e)) = (args m c).stateAfter 23 from funext (row_left m c)]
  rfl

/-- The standardised scores. -/
theorem standard_eq (l : Fin 24) (j : Fin 576) :
    (after hostOps0_3 (after hostOps0_2 (after hostOps0_1 (left m c))) (Proc.devRef .tc main_v91) : FVec Ideal S24x576 .f32) (ix2 l j) = (args m c).z l j := by
  refine (standard_at _ l j).trans ?_
  have hm := mean_at (left m c) l
  have hr := root_at (after hostOps0_1 (left m c)) (delta_at _) l
  have hs : (fun j => (after hostOps0_1 (left m c) (Proc.devRef .tc main_v80) : FVec Ideal S24x576 .f32) (ix2 l j)) = _ := funext (scores_eq m c l)
  rw [table, table, table, keep_scores, keep_means, hr, hm, hs, scores_eq]
  rfl

/-- The program's result. -/
theorem result_eq : finalContents condOps preI bodyI postI 24 m c (Proc.devRef .tc main_v94) = evidence (args m c).X (inLine (args m c).z) := by
  refine (taken_eq (after hostOps0_2 (after hostOps0_1 (left m c)))).trans ?_
  rw [line_at _ _ (standard_eq m c)]
  refine congrArg (fun X => evidence X _) ?_
  exact (keep_tokens _).trans (args_left m c main_arg1 (by decide))

end End

end Cert.ReferenceIdeal.Result

end
-- ==== Proof.Equal.lean ====
/-
  The two programs together: from memories that agree on the arguments, the scale being finite, they leave the same rows.
-/
module

public import proofs.«01_k».proof.Defs
public import proofs.«01_k».proof.Proof.Gen.Pre_scale_finite
public import proofs.«01_k».proof.Proof.KernelRun
public import proofs.«01_k».proof.Proof.KernelResult
public import proofs.«01_k».proof.Proof.ReferenceResult
public import Idealize.ShloMosaic.Lib.ReduceAll

@[expose] public section

set_option maxRecDepth 16384

noncomputable section

namespace Cert.Equal

open Idealize.ShloMosaic Idealize.ShloMosaic.TcCoe Idealize.SL.Sem Cert.Score

/-! ## Each program's run -/

/-- The kernel's program ends with its result at the rows picked by the scores in the kernel's form, and with its arguments as launched. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v26)
          = KernelIdeal.Result.evidence (KernelIdeal.Result.args m c).X (inLine (KernelIdeal.Result.args m c).factored)
        ∧ ∀ a ∈ KernelIdeal.Gen.argRefs, r.2.mem ((c.tc : Thread KernelIdeal.nD KernelIdeal.τ).loc a) = m ((c.tc : Thread KernelIdeal.nD KernelIdeal.τ).loc a)) :=
  (θ_run KernelIdeal.defs _ _).mono (fun r h c => ⟨(h c _ (KernelIdeal.Gen.mem_uc KernelIdeal.main_v26 (by decide))).trans (KernelIdeal.Result.result_eq m ρ c),
    fun a ha => (h c _ (KernelIdeal.Gen.mem_uc a ((by decide : ∀ a ∈ KernelIdeal.Gen.argRefs, ¬ (Proc.devRef .tc a : DevRef KernelIdeal.τ KernelIdeal.sig).isScoped) a ha))).trans
      (KernelIdeal.Gen.W7_args m ρ c a ha)⟩) (KernelIdeal.Run.run_contents m ρ)

/-- The reference ends with its result at the rows picked by the scores in its own form, and with its arguments as launched. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => ∀ c : Dev ReferenceIdeal.nD,
      r.2.mem ((c.tc : Thread ReferenceIdeal.nD ReferenceIdeal.τ).loc ReferenceIdeal.main_v94)
          = ReferenceIdeal.Result.evidence (ReferenceIdeal.Result.args m c).X (inLine (ReferenceIdeal.Result.args m c).z)
        ∧ ∀ a ∈ ReferenceIdeal.Result.argRefs, r.2.mem ((c.tc : Thread ReferenceIdeal.nD ReferenceIdeal.τ).loc a) = m ((c.tc : Thread ReferenceIdeal.nD ReferenceIdeal.τ).loc a)) :=
  (θ_run ReferenceIdeal.defs _ _).mono (fun r h c => ⟨(h c ReferenceIdeal.main_v94 (by decide)).trans (ReferenceIdeal.Result.result_eq m c),
    fun a ha => (h c a ((by decide : ∀ a ∈ ReferenceIdeal.Result.argRefs, (Proc.devRef .tc a : DevRef ReferenceIdeal.τ ReferenceIdeal.sig).isScoped = false) a ha)).trans
      (ReferenceIdeal.Result.args_end m c a ha)⟩) (ReferenceIdeal.Value.run_fold m ρ)

/-! ## The precondition, and the two results -/

/-- The bound that the precondition compares with is infinity. -/
theorem bound_eq : Ideal.ofBits .f32 0x7F800000#32 = ⊤ := by
  simp [Ideal.ofBits, Ideal.ieee]

/-- A value whose magnitude is below infinity is a real number. -/
theorem isReal_of_lt {x : EReal} (h : max x (-x) < ⊤) : IsReal x := by
  rcases isReal_or x with hx | rfl | rfl
  · exact hx
  · simp at h
  · simp at h

/-- Under the precondition the scale's entries are real numbers. -/
theorem scale_real {m : (ℓ : Loc KernelIdeal.nD KernelIdeal.τ KernelIdeal.sig) → Buf (Elt Ideal) ℓ} (h : Pre_KernelIdeal_scale_finite m)
    (c : Dev KernelIdeal.nD) (d : Fin 2048) : IsReal ((KernelIdeal.Result.args m c).scale d) := by
  have h0 := congrFun (h c) ix0
  dsimp only [Pre_scale_finite.fn] at h0
  have h1 := Host.reduce_andi_all _ _ _ _ _ h0 (ix1 d)
  refine isReal_of_lt ?_
  have h2 : Ideal.cmp .olt (max ((KernelIdeal.Result.args m c).scale d) (-(KernelIdeal.Result.args m c).scale d)) (Ideal.ofBits .f32 0x7F800000#32) = 1#1 := h1
  rw [bound_eq] at h2
  by_contra hn
  rw [show Ideal.cmp .olt _ ⊤ = BitVec.ofBool (decide (_ < (⊤ : EReal))) from rfl, decide_eq_false hn] at h2
  exact absurd h2 (by decide)

/-- The two programs pick rows by the same operations. -/
theorem evidence_eq (X : FVec Ideal ⟨3, ![24, 576, 2048]⟩ .f32) (s : FVec Ideal ⟨1, ![13824]⟩ .f32) :
    KernelIdeal.Result.evidence X s = ReferenceIdeal.Result.evidence X s := rfl

/-- The results agree when the arguments do and the scale is finite. -/
theorem results_eq (A : Args) (hw : ∀ d, IsReal (A.scale d)) :
    KernelIdeal.Result.evidence A.X (inLine A.factored) = ReferenceIdeal.Result.evidence A.X (inLine A.z) := by
  rw [evidence_eq, funext (A.factored_eq hw)]

end Cert.Equal

end
-- ==== Proof.lean ====
/-
  The certificate's claim: the kernel's programs run, end quiescent and keep their arguments, the reference does too, and the two
  leave equal results when the layer norm's scale is finite.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_scale_finite
public import proofs.«01_k».proof.Proof.Equal
public import Idealize.ShloMosaic.Lib.Quiescent

@[expose] public section

noncomputable section

namespace Cert.Proof

open Idealize.ShloMosaic Idealize.SL.Sem

/-- The reference runs, ends quiescent and keeps its arguments. -/
theorem reference_frame : quiescent_ReferenceIdeal := fun m ρ _ =>
  (θ_run ReferenceIdeal.defs _ _).mono (fun r h => ⟨fun c =>
      let k := (h c).2
      ⟨k ReferenceIdeal.main_arg0 (by decide), k ReferenceIdeal.main_arg1 (by decide), k ReferenceIdeal.main_arg2 (by decide),
        k ReferenceIdeal.main_arg3 (by decide), k ReferenceIdeal.main_arg4 (by decide), k ReferenceIdeal.main_arg5 (by decide),
        k ReferenceIdeal.main_arg6 (by decide), k ReferenceIdeal.main_arg7 (by decide), k ReferenceIdeal.main_arg8 (by decide),
        k ReferenceIdeal.main_arg9 (by decide), k ReferenceIdeal.main_arg10 (by decide), k ReferenceIdeal.main_arg11 (by decide),
        k ReferenceIdeal.main_arg12 (by decide), k ReferenceIdeal.main_arg13 (by decide), k ReferenceIdeal.main_arg14 (by decide),
        k ReferenceIdeal.main_arg15 (by decide), k ReferenceIdeal.main_arg16 (by decide)⟩,
    sem_eq_zero_of_no_sems (by decide) r.2⟩) (Equal.reference_run m ρ)

/-- From memories that agree on the arguments, the scale being finite, the kernel and the reference leave equal results. -/
theorem equal : algebraic_KernelIdeal_ReferenceIdeal_pre_scale_finite := by
  intro m ρ m' ρ' hpre hagree
  have hargs (c : Dev KernelIdeal.nD) : ReferenceIdeal.Result.args m' c = KernelIdeal.Result.args m c := by
    obtain ⟨h0, h1, h2, h3, h4, h5, h6, h7, h8, h9, h10, h11, h12, h13, h14, h15, h16⟩ := hagree c
    rw [ReferenceIdeal.Result.args, KernelIdeal.Result.args, h0, h1, h2, h3, h4, h5, h6, h7, h8, h9, h10, h11, h12, h13, h14, h15, h16]
  refine ⟨fun c => KernelIdeal.Result.evidence (KernelIdeal.Result.args m c).X (Score.inLine (KernelIdeal.Result.args m c).factored), ?_, ?_⟩
  · refine (θ_run KernelIdeal.defs _ _).mono (fun r h c => ⟨(h c).1, ?_⟩) (Equal.kernel_run m ρ)
    have k := (h c).2
    exact ⟨k KernelIdeal.main_arg0 (by decide), k KernelIdeal.main_arg1 (by decide), k KernelIdeal.main_arg2 (by decide),
      k KernelIdeal.main_arg3 (by decide), k KernelIdeal.main_arg4 (by decide), k KernelIdeal.main_arg5 (by decide),
      k KernelIdeal.main_arg6 (by decide), k KernelIdeal.main_arg7 (by decide), k KernelIdeal.main_arg8 (by decide),
      k KernelIdeal.main_arg9 (by decide), k KernelIdeal.main_arg10 (by decide), k KernelIdeal.main_arg11 (by decide),
      k KernelIdeal.main_arg12 (by decide), k KernelIdeal.main_arg13 (by decide), k KernelIdeal.main_arg14 (by decide),
      k KernelIdeal.main_arg15 (by decide), k KernelIdeal.main_arg16 (by decide)⟩
  · refine (θ_run ReferenceIdeal.defs _ _).mono (fun r h c => ⟨?_, ?_⟩) (Equal.reference_run m' ρ')
    · refine (h c).1.trans ?_
      rw [hargs c]
      exact (Equal.results_eq _ (Equal.scale_real hpre c)).symm
    · have k := (h c).2
      exact ⟨k ReferenceIdeal.main_arg0 (by decide), k ReferenceIdeal.main_arg1 (by decide), k ReferenceIdeal.main_arg2 (by decide),
        k ReferenceIdeal.main_arg3 (by decide), k ReferenceIdeal.main_arg4 (by decide), k ReferenceIdeal.main_arg5 (by decide),
        k ReferenceIdeal.main_arg6 (by decide), k ReferenceIdeal.main_arg7 (by decide), k ReferenceIdeal.main_arg8 (by decide),
        k ReferenceIdeal.main_arg9 (by decide), k ReferenceIdeal.main_arg10 (by decide), k ReferenceIdeal.main_arg11 (by decide),
        k ReferenceIdeal.main_arg12 (by decide), k ReferenceIdeal.main_arg13 (by decide), k ReferenceIdeal.main_arg14 (by decide),
        k ReferenceIdeal.main_arg15 (by decide), k ReferenceIdeal.main_arg16 (by decide)⟩

/-- The certificate's claim. -/
theorem claim : Cert.Claim := ⟨Kernel.Gen.facts, KernelIdeal.Gen.facts, ReferenceIdeal.Gen.facts, Pre_scale_finite.Gen.facts,
  fun m ρ _ => Kernel.Gen.frame m ρ, fun m ρ _ => KernelIdeal.Gen.frame m ρ, fun m ρ _ => KernelIdeal.Gen.frame m ρ,
  reference_frame, fun m ρ _ => reference_frame m ρ trivial, trivial, equal⟩

end Cert.Proof

end
